-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![4, 512, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 1024]⟩ ⟨3, ![4, 512, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x512x1024 : Shape := ⟨3, ![1, 512, 1024]⟩
abbrev S1024x1024 : Shape := ⟨2, ![1024, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x512x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_scores_ReferenceIdeal.lean ====
abbrev S4x512x1024 : Shape := ⟨3, ![4, 512, 1024]⟩
abbrev S1024x4096 : Shape := ⟨2, ![1024, 4096]⟩
abbrev S4096x1024 : Shape := ⟨2, ![4096, 1024]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4x512x1024 .f32) (main_arg1 : FVec F S1024x4096 .f32) (main_arg2 : FVec F S1024x4096 .f32) (main_arg3 : FVec F S1024x4096 .f32) (main_arg4 : FVec F S4096x1024 .f32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S4x512x1024 : Shape := ⟨3, ![4, 512, 1024]⟩
abbrev S3x512x1024 : Shape := ⟨3, ![3, 512, 1024]⟩
abbrev S1024x3072 : Shape := ⟨2, ![1024, 3072]⟩
abbrev S3 : Shape := ⟨1, ![3]⟩
abbrev S6 : Shape := ⟨1, ![6]⟩
abbrev S_ : Shape := ⟨0, ![]⟩
abbrev S1 : Shape := ⟨1, ![1]⟩
abbrev S512x1024 : Shape := ⟨2, ![512, 1024]⟩
abbrev S512x128 : Shape := ⟨2, ![512, 128]⟩
abbrev S128x512 : Shape := ⟨2, ![128, 512]⟩
abbrev S512x512 : Shape := ⟨2, ![512, 512]⟩
abbrev S512 : Shape := ⟨1, ![512]⟩
abbrev S512x1 : Shape := ⟨2, ![512, 1]⟩
abbrev S256x1024 : Shape := ⟨2, ![256, 1024]⟩
abbrev S1x256x1024 : Shape := ⟨3, ![1, 256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x512x1024, .f32⟩
  | .local _ .vmem, ⟨6, _⟩ => ⟨S4x512x1024, .bf16⟩
  | .local _ .vmem, ⟨7, _⟩ => ⟨S3x512x1024, .bf16⟩
  | .local _ .vmem, ⟨8, _⟩ => ⟨S3x512x1024, .bf16⟩
  | .local _ .vmem, ⟨9, _⟩ => ⟨S1024x3072, .bf16⟩
  | .local _ .vmem, ⟨10, _⟩ => ⟨S1024x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : Index := Scalar.indexCast v2
  let c0_15 : Index := 0#32
  let c0_16 : Index := 0#32
  ![v19.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let c0_i32_22 : BitVec 32 := 0#32
  ![v2.toNat, 0, 0]
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_19 : BitVec 32 := 1#32
  let v23 : BitVec 32 := Scalar.muli v4 c1_i32_19
  let v24 : BitVec 32 := Scalar.addi c0_i32_20 v23
  v24.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_27 : BitVec 32 := 1#32
  let v31 : BitVec 32 := Scalar.muli v8 c1_i32_27
  let v32 : BitVec 32 := Scalar.addi c0_i32_28 v31
  v32.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_111 : BitVec 32 := 1#32
  let v216 : BitVec 32 := Scalar.muli v6 c1_i32_111
  let v217 : BitVec 32 := Scalar.addi c0_i32_112 v216
  v217.toNat
def k0_off3 (d0 : Dev nD) (c1_i32_117 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v224 : BitVec 32 := Scalar.addi v2 c1_i32_117
  let c4_i32_118 : BitVec 32 := 4#32
  let v225 : BitVec 32 := Scalar.remsi v224 c4_i32_118
  let c0_i32_123 : BitVec 32 := 0#32
  let c0_i32_124 : BitVec 32 := 0#32
  ![v225.toNat, 0, 0]
def k0_off4 (d0 : Dev nD) (c1_i32_117 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v224 : BitVec 32 := Scalar.addi v2 c1_i32_117
  let c4_i32_118 : BitVec 32 := 4#32
  let v225 : BitVec 32 := Scalar.remsi v224 c4_i32_118
  let v232 : Index := Scalar.indexCast v225
  let c0_127 : Index := 0#32
  let c0_128 : Index := 0#32
  ![v232.toNat, 0, 0]
def k0_dev7 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_117 : BitVec 32 := 1#32
  let v224 : BitVec 32 := Scalar.addi v2 c1_i32_117
  let c4_i32_118 : BitVec 32 := 4#32
  let v225 : BitVec 32 := Scalar.remsi v224 c4_i32_118
  let c1_i32_180 : BitVec 32 := 1#32
  let v380 : BitVec 32 := Scalar.muli v225 c1_i32_180
  let v381 : BitVec 32 := Scalar.addi c0_i32_181 v380
  v381.toNat
def k0_dev8 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_117 : BitVec 32 := 1#32
  let v224 : BitVec 32 := Scalar.addi v2 c1_i32_117
  let c4_i32_118 : BitVec 32 := 4#32
  let v225 : BitVec 32 := Scalar.remsi v224 c4_i32_118
  let c1_i32_194 : BitVec 32 := 1#32
  let v397 : BitVec 32 := Scalar.muli v225 c1_i32_194
  let v398 : BitVec 32 := Scalar.addi c0_i32_195 v397
  v398.toNat
def k0_dev9 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_199 : BitVec 32 := 3#32
  let v407 : BitVec 32 := Scalar.addi v2 c3_i32_199
  let c4_i32_200 : BitVec 32 := 4#32
  let v408 : BitVec 32 := Scalar.remsi v407 c4_i32_200
  let c1_i32_261 : BitVec 32 := 1#32
  let v563 : BitVec 32 := Scalar.muli v408 c1_i32_261
  let v564 : BitVec 32 := Scalar.addi c0_i32_262 v563
  v564.toNat
def k0_dev10 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_199 : BitVec 32 := 3#32
  let v407 : BitVec 32 := Scalar.addi v2 c3_i32_199
  let c4_i32_200 : BitVec 32 := 4#32
  let v408 : BitVec 32 := Scalar.remsi v407 c4_i32_200
  let c1_i32_277 : BitVec 32 := 1#32
  let v580 : BitVec 32 := Scalar.muli v408 c1_i32_277
  let v581 : BitVec 32 := Scalar.addi c0_i32_278 v580
  v581.toNat
def k0_dev11 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_283 : BitVec 32 := 2#32
  let v590 : BitVec 32 := Scalar.addi v2 c2_i32_283
  let c4_i32_284 : BitVec 32 := 4#32
  let v591 : BitVec 32 := Scalar.remsi v590 c4_i32_284
  let c1_i32_345 : BitVec 32 := 1#32
  let v746 : BitVec 32 := Scalar.muli v591 c1_i32_345
  let v747 : BitVec 32 := Scalar.addi c0_i32_346 v746
  v747.toNat
def k0_dev12 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_283 : BitVec 32 := 2#32
  let v590 : BitVec 32 := Scalar.addi v2 c2_i32_283
  let c4_i32_284 : BitVec 32 := 4#32
  let v591 : BitVec 32 := Scalar.remsi v590 c4_i32_284
  let c1_i32_361 : BitVec 32 := 1#32
  let v763 : BitVec 32 := Scalar.muli v591 c1_i32_361
  let v764 : BitVec 32 := Scalar.addi c0_i32_362 v763
  v764.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x512x1024 : Shape := ⟨3, ![4, 512, 1024]⟩
abbrev S1024x4096 : Shape := ⟨2, ![1024, 4096]⟩
abbrev S4096x1024 : Shape := ⟨2, ![4096, 1024]⟩
abbrev S4x512x4096 : Shape := ⟨3, ![4, 512, 4096]⟩
abbrev S4x512x32x128 : Shape := ⟨4, ![4, 512, 32, 128]⟩
abbrev S4x32x512x512 : Shape := ⟨4, ![4, 32, 512, 512]⟩
abbrev S_ : Shape := ⟨0, ![]⟩
abbrev S4x32x512 : Shape := ⟨3, ![4, 32, 512]⟩
abbrev S4x32x512x1 : Shape := ⟨4, ![4, 32, 512, 1]⟩
abbrev S4x32x128x512 : Shape := ⟨4, ![4, 32, 128, 512]⟩
abbrev S4x512x32x1 : Shape := ⟨4, ![4, 512, 32, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S4x512x4096, .f32⟩
  | .hbm, ⟨6, _⟩ => ⟨S4x512x32x128, .f32⟩
  | .hbm, ⟨7, _⟩ => ⟨S4x512x4096, .f32⟩
  | .hbm, ⟨8, _⟩ => ⟨S4x512x32x128, .f32⟩
  | .hbm, ⟨9, _⟩ => ⟨S4x512x4096, .f32⟩
  | .hbm, ⟨10, _⟩ => ⟨S4x512x32x128, .f32⟩
  | .hbm, ⟨11, _⟩ => ⟨S4x32x512x512, .f32⟩
  | .hbm, ⟨12, _⟩ => ⟨S_, .f32⟩
  | .hbm, ⟨13, _⟩ => ⟨S4x32x512x512, .f32⟩
  | .hbm, ⟨14, _⟩ => ⟨S4x32x512x512, .f32⟩
  | .hbm, ⟨15, _⟩ => ⟨S_, .f32⟩
  | .hbm, ⟨16, _⟩ => ⟨S4x32x512, .f32⟩
  | .hbm, ⟨17, _⟩ => ⟨S4x32x512x1, .f32⟩
  | .hbm, ⟨18, _⟩ => ⟨S4x32x512x512, .f32⟩
  | .hbm, ⟨19, _⟩ => ⟨S4x32x512x512, .f32⟩
  | .hbm, ⟨20, _⟩ => ⟨S4x32x512x512, .f32⟩
  | .hbm, ⟨21, _⟩ => ⟨S_, .f32⟩
  | .hbm, ⟨22, _⟩ => ⟨S4x32x512, .f32⟩
  | .hbm, ⟨23, _⟩ => ⟨S4x32x512x1, .f32⟩
  | .hbm, ⟨24, _⟩ => ⟨S4x32x128x512, .f32⟩
  | .hbm, ⟨25, _⟩ => ⟨S4x512x32x128, .f32⟩
  | .hbm, ⟨26, _⟩ => ⟨S4x512x32x1, .f32⟩
  | .hbm, ⟨27, _⟩ => ⟨S4x512x32x128, .f32⟩
  | .hbm, ⟨28, _⟩ => ⟨S4x512x32x128, .f32⟩
  | .hbm, ⟨29, _⟩ => ⟨S4x512x4096, .f32⟩
  | .hbm, ⟨30, _⟩ => ⟨S4x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Values.lean ====
/-
# The values the kernel computes

Each device's five input blocks, the values the body computes from them (by the printed payloads, in the order the
body composes them), and the contents the five scratch buffers reach. Nothing here talks about memory or time.
-/
module

public import proofs.«01_k».proof.Proof.Gen.KernelIdeal
public import proofs.«01_k».proof.Proof.Gen.KernelIdeal.Skeleton

@[expose] public section

noncomputable section

namespace Cert.Mha

open Cert.KernelIdeal Cert.KernelIdeal.Gen
open Idealize.ShloMosaic

variable {F : FTy → Type} [FloatOps F]

/-- One device's input blocks: its batch entry of `x`, its columns of the three projections, its rows of the output
    projection. -/
structure Ins (F : FTy → Type) where
  x : Vec F S1x512x1024 .f32
  wq : Vec F S1024x1024 .f32
  wk : Vec F S1024x1024 .f32
  wv : Vec F S1024x1024 .f32
  wo : Vec F S1024x1024 .f32

/-- The device `k` places after `c` around the mesh. -/
abbrev pk (c : Dev nD) (k : Fin 4) : Dev nD := ⟨(c.val + k.val) % 4, Nat.mod_lt _ (by decide)⟩

/-! ## One batch entry through one device's heads -/

section Batch
variable (X : Vec F S1x512x1024 .bf16) (A B C D : Vec F S1024x1024 .bf16)

/-- The partial output of a device's own batch entry. -/
def own : FVec F S1x512x1024 .f32 :=
  k0_pay23 (k0_pay10 X A B C) (k0_pay13 (k0_pay11 X C) (k0_pay12 X A B))
    (k0_pay14 (k0_pay7 X A) (k0_pay8 X B) (k0_pay9 X C)) (k0_pay15 (k0_pay7 X A) (k0_pay8 X B) (k0_pay9 X C))
    (k0_pay18 (k0_pay16 (k0_pay9 X C)) (k0_pay17 (k0_pay7 X A) (k0_pay8 X B)))
    (k0_pay19 (k0_pay7 X A) (k0_pay8 X B) (k0_pay9 X C)) (k0_pay20 (k0_pay7 X A) (k0_pay8 X B) (k0_pay9 X C))
    (k0_pay21 (k0_pay9 X C)) (k0_pay22 (k0_pay7 X A) (k0_pay8 X B)) D

/-- The upper half of the partial output of the batch entry one place on. -/
def one0 : Vec F S1x256x1024 .bf16 :=
  k0_pay41 (k0_pay25 X A) (k0_pay26 X B) (k0_pay27 X C) (k0_pay30 (k0_pay28 X C) (k0_pay29 X A B))
    (k0_pay31 (k0_pay25 X A) (k0_pay26 X B) (k0_pay27 X C)) (k0_pay32 (k0_pay25 X A) (k0_pay26 X B) (k0_pay27 X C))
    (k0_pay35 (k0_pay33 (k0_pay27 X C)) (k0_pay34 (k0_pay25 X A) (k0_pay26 X B)))
    (k0_pay36 (k0_pay25 X A) (k0_pay26 X B) (k0_pay27 X C)) (k0_pay37 (k0_pay25 X A) (k0_pay26 X B) (k0_pay27 X C))
    (k0_pay38 (k0_pay27 X C)) (k0_pay39 (k0_pay25 X A) (k0_pay26 X B)) D
/-- The heads' outputs of that batch entry, side by side. -/
def oneH : FVec F S512x1024 .bf16 :=
  k0_pay40 (k0_pay25 X A) (k0_pay26 X B) (k0_pay27 X C) (k0_pay30 (k0_pay28 X C) (k0_pay29 X A B))
    (k0_pay31 (k0_pay25 X A) (k0_pay26 X B) (k0_pay27 X C)) (k0_pay32 (k0_pay25 X A) (k0_pay26 X B) (k0_pay27 X C))
    (k0_pay35 (k0_pay33 (k0_pay27 X C)) (k0_pay34 (k0_pay25 X A) (k0_pay26 X B)))
    (k0_pay36 (k0_pay25 X A) (k0_pay26 X B) (k0_pay27 X C)) (k0_pay37 (k0_pay25 X A) (k0_pay26 X B) (k0_pay27 X C))
    (k0_pay38 (k0_pay27 X C)) (k0_pay39 (k0_pay25 X A) (k0_pay26 X B))
/-- Its lower half. -/
def one1 : Vec F S1x256x1024 .bf16 := k0_pay42 (oneH X A B C) D

/-- The upper half of the partial output of the batch entry three places on. -/
def three0 : Vec F S1x256x1024 .bf16 :=
  k0_pay64 (k0_pay47 X A B C) (k0_pay51 (k0_pay49 X A B C) (k0_pay50 X A B))
    (k0_pay52 (k0_pay44 X A) (k0_pay45 X B) (k0_pay46 X C)) (k0_pay53 (k0_pay44 X A) (k0_pay45 X B) (k0_pay46 X C))
    (k0_pay57 (k0_pay55 (k0_pay44 X A) (k0_pay45 X B) (k0_pay46 X C)) (k0_pay56 (k0_pay44 X A) (k0_pay45 X B)))
    (k0_pay58 (k0_pay44 X A) (k0_pay45 X B) (k0_pay46 X C)) (k0_pay59 (k0_pay44 X A) (k0_pay45 X B) (k0_pay46 X C))
    (k0_pay61 (k0_pay44 X A) (k0_pay45 X B) (k0_pay46 X C)) (k0_pay62 (k0_pay44 X A) (k0_pay45 X B)) D
/-- Its lower half. -/
def three1 : Vec F S1x256x1024 .bf16 :=
  k0_pay65 (k0_pay47 X A B C) (k0_pay51 (k0_pay49 X A B C) (k0_pay50 X A B))
    (k0_pay52 (k0_pay44 X A) (k0_pay45 X B) (k0_pay46 X C)) (k0_pay53 (k0_pay44 X A) (k0_pay45 X B) (k0_pay46 X C))
    (k0_pay57 (k0_pay55 (k0_pay44 X A) (k0_pay45 X B) (k0_pay46 X C)) (k0_pay56 (k0_pay44 X A) (k0_pay45 X B)))
    (k0_pay58 (k0_pay44 X A) (k0_pay45 X B) (k0_pay46 X C)) (k0_pay59 (k0_pay44 X A) (k0_pay45 X B) (k0_pay46 X C))
    (k0_pay61 (k0_pay44 X A) (k0_pay45 X B) (k0_pay46 X C)) (k0_pay62 (k0_pay44 X A) (k0_pay45 X B)) D

/-- The zero scores' accumulator the body names. -/
abbrev zacc : FVec F S512x512 .f32 := constant S512x512 .f32 0x00000000#32

/-- The upper half of the partial output of the batch entry two places on. -/
def two0 : Vec F S1x256x1024 .bf16 :=
  k0_pay86 (k0_pay67 X A) (k0_pay68 X B) (k0_pay69 X C)
    (k0_pay73 (k0_pay70 X A) (k0_pay71 X C) (k0_pay72 X B) zacc)
    (k0_pay74 (k0_pay67 X A) (k0_pay68 X B) (k0_pay69 X C)) (k0_pay75 (k0_pay67 X A) (k0_pay68 X B) (k0_pay69 X C))
    (k0_pay79 (k0_pay76 (k0_pay67 X A)) (k0_pay77 (k0_pay69 X C)) (k0_pay78 (k0_pay68 X B)) zacc)
    (k0_pay80 (k0_pay67 X A) (k0_pay68 X B) (k0_pay69 X C)) (k0_pay81 (k0_pay67 X A) (k0_pay68 X B) (k0_pay69 X C))
    (k0_pay82 (k0_pay67 X A)) (k0_pay83 (k0_pay69 X C)) (k0_pay84 (k0_pay68 X B)) zacc D
/-- The heads' outputs of that batch entry, side by side. -/
def twoH : FVec F S512x1024 .bf16 :=
  k0_pay85 (k0_pay67 X A) (k0_pay68 X B) (k0_pay69 X C)
    (k0_pay73 (k0_pay70 X A) (k0_pay71 X C) (k0_pay72 X B) zacc)
    (k0_pay74 (k0_pay67 X A) (k0_pay68 X B) (k0_pay69 X C)) (k0_pay75 (k0_pay67 X A) (k0_pay68 X B) (k0_pay69 X C))
    (k0_pay79 (k0_pay76 (k0_pay67 X A)) (k0_pay77 (k0_pay69 X C)) (k0_pay78 (k0_pay68 X B)) zacc)
    (k0_pay80 (k0_pay67 X A) (k0_pay68 X B) (k0_pay69 X C)) (k0_pay81 (k0_pay67 X A) (k0_pay68 X B) (k0_pay69 X C))
    (k0_pay82 (k0_pay67 X A)) (k0_pay83 (k0_pay69 X C)) (k0_pay84 (k0_pay68 X B)) zacc
/-- Its lower half. -/
def two1 : Vec F S1x256x1024 .bf16 := k0_pay87 (twoH X A B C) D

end Batch

/-! ## The contents the buffers reach -/

variable (I : Dev nD → Ins F)

/-- Device `b`'s batch entry of `x`, as it is sent around. -/
def xs (b : Dev nD) : Vec F S1x512x1024 .bf16 := k0_pay1 (I b).x
/-- Device `c`'s four weight blocks as the products take them. -/
def aQ (c : Dev nD) : Vec F S1024x1024 .bf16 := k0_pay2 (I c).wq
def aK (c : Dev nD) : Vec F S1024x1024 .bf16 := k0_pay3 (I c).wk
def aV (c : Dev nD) : Vec F S1024x1024 .bf16 := k0_pay4 (I c).wv
def aO (c : Dev nD) : Vec F S1024x1024 .bf16 := k0_pay5 (I c).wo

/-- What device `c` writes to half `h` of slot `s` of its outgoing partials: that half of its partial output for the
    batch entry `s + 1` places on. -/
def half (c : Dev nD) : Fin 3 → Fin 2 → Vec F S1x256x1024 .bf16
  | 0, 0 => one0 (xs I (pk c 1)) (aQ I c) (aK I c) (aV I c) (aO I c)
  | 0, 1 => one1 (xs I (pk c 1)) (aQ I c) (aK I c) (aV I c) (aO I c)
  | 1, 0 => two0 (xs I (pk c 2)) (aQ I c) (aK I c) (aV I c) (aO I c)
  | 1, 1 => two1 (xs I (pk c 2)) (aQ I c) (aK I c) (aV I c) (aO I c)
  | 2, 0 => three0 (xs I (pk c 3)) (aQ I c) (aK I c) (aV I c) (aO I c)
  | 2, 1 => three1 (xs I (pk c 3)) (aQ I c) (aK I c) (aV I c) (aO I c)

/-- A place of a `1×512×1024` block. -/
abbrev at512 (r : Fin 512) (l : Fin 1024) : S1x512x1024.Idx := fun | ⟨0, _⟩ => (0 : Fin 1) | ⟨1, _⟩ => r | ⟨2, _⟩ => l
/-- A place of a `1×256×1024` block. -/
abbrev at256 (r : Fin 256) (l : Fin 1024) : S1x256x1024.Idx := fun | ⟨0, _⟩ => (0 : Fin 1) | ⟨1, _⟩ => r | ⟨2, _⟩ => l
/-- A place of a `1024×1024` block. -/
abbrev at1024 (r l : Fin 1024) : S1024x1024.Idx := fun | ⟨0, _⟩ => r | ⟨1, _⟩ => l

/-- The gathered `x`: slot `b` is device `b`'s batch entry, on every device. -/
def xgB : S4x512x1024.Idx → Elt F .bf16 := fun i => xs I (i 0) (at512 (i 1) (i 2))
/-- The outgoing partials of device `c`. -/
def poutB (c : Dev nD) : S3x512x1024.Idx → Elt F .bf16 := fun i =>
  half I c (i 0) ⟨(i 1).val / 256, by have : (i 1).val < 512 := (i 1).isLt; omega⟩
    (at256 ⟨(i 1).val % 256, Nat.mod_lt _ (by decide)⟩ (i 2))
/-- The incoming partials of device `c`: slot `j` comes from the device `j + 1` places on, from its slot `2 - j`. -/
def pinB (c : Dev nD) : S3x512x1024.Idx → Elt F .bf16 := fun i =>
  poutB I (pk c ⟨(i 0).val + 1, by have : (i 0).val < 3 := (i 0).isLt; omega⟩)
    (fun | ⟨0, _⟩ => (⟨2 - (i 0).val, by show _ < 3; omega⟩ : Fin 3) | ⟨1, _⟩ => i 1 | ⟨2, _⟩ => i 2)
/-- The three projections side by side on device `c`. -/
def w16B (c : Dev nD) : S1024x3072.Idx → Elt F .bf16 := fun i =>
  (if (i 1).val < 1024 then aQ I c else if (i 1).val < 2048 then aK I c else aV I c)
    (at1024 (i 0) ⟨(i 1).val % 1024, Nat.mod_lt _ (by decide)⟩)

/-- Slot `j` of the incoming partials of device `c`, as it is loaded. -/
def pinS (c : Dev nD) (j : Fin 3) : Vec F S1x512x1024 .bf16 := fun i =>
  pinB I c (fun | ⟨0, _⟩ => j | ⟨1, _⟩ => i 1 | ⟨2, _⟩ => i 2)

/-- The partial output of device `c` for its own batch entry. -/
def ownOut (c : Dev nD) : Vec F S1x512x1024 .f32 := own (xs I c) (aQ I c) (aK I c) (aV I c) (aO I c)
/-- The result block of device `c`: its own partial, then the three that come in, in the order the body adds them. -/
def outV (c : Dev nD) : Vec F S1x512x1024 .f32 :=
  k0_pay90 (k0_pay89 (k0_pay88 (ownOut I c) (pinS I c 2)) (pinS I c 0)) (pinS I c 1)

end Cert.Mha

end
-- ==== Proof.Slots.lean ====
/-
# The scratch buffers' slots

The elements each slice of the gathered `x` and of the partials' buffers covers, and what a load, a store and a
landing through such a slice read and leave, as facts about whole-buffer contents.
-/
module

public import proofs.«01_k».proof.Proof.Values

@[expose] public section

noncomputable section

namespace Cert.Mha

open Cert.KernelIdeal Cert.KernelIdeal.Gen
open Idealize.ShloMosaic

variable {F : FTy → Type} [FloatOps F]

abbrev XG : Memref sig .tc .vmem S4x512x1024 .bf16 := Memref.whole cc0_scratch0
abbrev PIN : Memref sig .tc .vmem S3x512x1024 .bf16 := Memref.whole cc0_scratch1
abbrev POUT : Memref sig .tc .vmem S3x512x1024 .bf16 := Memref.whole cc0_scratch2
abbrev W16 : Memref sig .tc .vmem S1024x3072 .bf16 := Memref.whole cc0_scratch3
abbrev WO : Memref sig .tc .vmem S1024x1024 .bf16 := Memref.whole cc0_scratch4

/-- The elements of slot `b` of the gathered `x`. -/
def xgS (b : ℕ) : Finset S4x512x1024.Idx := Finset.univ.filter fun i => (i 0).val = b
/-- The elements of half `h` of slot `j` of a partials buffer. -/
def hS (j h : ℕ) : Finset S3x512x1024.Idx := Finset.univ.filter fun i => (i 0).val = j ∧ (i 1).val / 256 = h
/-- The elements of slot `j` of a partials buffer. -/
def slotS (j : ℕ) : Finset S3x512x1024.Idx := Finset.univ.filter fun i => (i 0).val = j

theorem mem_xgS {b : ℕ} {i : S4x512x1024.Idx} : i ∈ xgS b ↔ (i 0).val = b := by simp [xgS]
theorem mem_hS {j h : ℕ} {i : S3x512x1024.Idx} : i ∈ hS j h ↔ (i 0).val = j ∧ (i 1).val / 256 = h := by simp [hS]
theorem mem_slotS {j : ℕ} {i : S3x512x1024.Idx} : i ∈ slotS j ↔ (i 0).val = j := by simp [slotS]

/-- A unit rectangle of one slot of the gathered `x` covers that slot. -/
theorem xg_rect {off : Fin 3 → ℕ} {b : ℕ} (h : off = ![b, 0, 0]) (inb : ∀ a, off a + S1x512x1024.size a ≤ S4x512x1024.size a) :
    (Rect.unit (s := S4x512x1024) off S1x512x1024.size inb).set = xgS b := by
  subst h; ext i
  have h1 : (i 1).val < 512 := (i 1).isLt
  have h2 : (i 2).val < 1024 := (i 2).isLt
  rw [Rect.mem_set_unit, mem_xgS]
  constructor
  · intro h
    have := h 0
    simp at this; omega
  · intro h a
    match a with
    | ⟨0, _⟩ => simp; omega
    | ⟨1, _⟩ => simp; omega
    | ⟨2, _⟩ => simp; omega

/-- A unit rectangle of half a slot of a partials buffer covers that half. -/
theorem half_rect {off : Fin 3 → ℕ} {j h : ℕ} (ho : off = ![j, 256 * h, 0]) (inb : ∀ a, off a + S1x256x1024.size a ≤ S3x512x1024.size a) :
    (Rect.unit (s := S3x512x1024) off S1x256x1024.size inb).set = hS j h := by
  subst ho; ext i
  have h1 : (i 1).val < 512 := (i 1).isLt
  have h2 : (i 2).val < 1024 := (i 2).isLt
  rw [Rect.mem_set_unit, mem_hS]
  constructor
  · intro h
    have h0 := h 0
    have h1 := h 1
    simp at h0 h1; omega
  · intro h a
    match a with
    | ⟨0, _⟩ => simp; omega
    | ⟨1, _⟩ => simp; omega
    | ⟨2, _⟩ => simp; omega

/-- A unit rectangle of one slot of a partials buffer covers that slot. -/
theorem slot_rect {off : Fin 3 → ℕ} {j : ℕ} (ho : off = ![j, 0, 0]) (inb : ∀ a, off a + S1x512x1024.size a ≤ S3x512x1024.size a) :
    (Rect.unit (s := S3x512x1024) off S1x512x1024.size inb).set = slotS j := by
  subst ho; ext i
  have h1 : (i 1).val < 512 := (i 1).isLt
  have h2 : (i 2).val < 1024 := (i 2).isLt
  rw [Rect.mem_set_unit, mem_slotS]
  constructor
  · intro h
    have h0 := h 0
    simp at h0; omega
  · intro h a
    match a with
    | ⟨0, _⟩ => simp; omega
    | ⟨1, _⟩ => simp; omega
    | ⟨2, _⟩ => simp; omega

theorem hS_disjoint (j : ℕ) : Disjoint (hS j 0) (hS j 1) := by
  rw [Finset.disjoint_left]; intro i h0 h1; rw [mem_hS] at h0 h1; omega
theorem hS_union (j : ℕ) : hS j 0 ∪ hS j 1 = slotS j := by
  ext i
  have h1 : (i 1).val < 512 := (i 1).isLt
  rw [Finset.mem_union, mem_hS, mem_hS, mem_slotS]; omega
theorem slotS_disjoint {j k : ℕ} (h : j ≠ k) : Disjoint (slotS j) (slotS k) := by
  rw [Finset.disjoint_left]; intro i h0 h1; rw [mem_slotS] at h0 h1; omega
theorem slotS_cover : slotS 0 ∪ (slotS 1 ∪ slotS 2) = Finset.univ := by
  ext i
  have h1 : (i 0).val < 3 := (i 0).isLt
  simp only [Finset.mem_union, mem_slotS, Finset.mem_univ, iff_true]; omega
theorem xgS_disjoint {j k : ℕ} (h : j ≠ k) : Disjoint (xgS j) (xgS k) := by
  rw [Finset.disjoint_left]; intro i h0 h1; rw [mem_xgS] at h0 h1; omega

/-! ## Reads and writes -/

/-- Contents whose elements under a view are the payload are, there, what writing the payload leaves. -/
theorem write_same {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

variable (I : Dev nD → Ins F)

/-- A load of slot `b` of the gathered `x` reads device `b`'s entry. -/
theorem read_xg {off : Fin 3 → ℕ} {b : Dev nD} (h : off = ![b.val, 0, 0]) (inb : ∀ a, off a + S1x512x1024.size a ≤ S4x512x1024.size a) :
    (XG.access (Rect.unit (s := S4x512x1024) off S1x512x1024.size inb)).read (Elt F) (xgB I) = xs I b := by
  subst h
  funext y
  have hy0 : y 0 = (0 : Fin 1) := Subsingleton.elim (α := Fin 1) _ _
  rw [View.read_apply]
  show xgB I ((Rect.unit (s := S4x512x1024) ![b.val, 0, 0] S1x512x1024.size inb).emb y) = _
  unfold xgB
  have e0 : ((Rect.unit (s := S4x512x1024) ![b.val, 0, 0] S1x512x1024.size inb).emb y) 0 = b := by
    apply Fin.ext; rw [Rect.emb_apply]; simp; exact congrArg Fin.val hy0
  have e1 : ((Rect.unit (s := S4x512x1024) ![b.val, 0, 0] S1x512x1024.size inb).emb y) 1 = y 1 := by
    apply Fin.ext; rw [Rect.emb_apply]; simp
  have e2 : ((Rect.unit (s := S4x512x1024) ![b.val, 0, 0] S1x512x1024.size inb).emb y) 2 = y 2 := by
    apply Fin.ext; rw [Rect.emb_apply]; simp
  rw [e0, e1, e2]
  congr 1
  funext a
  match a with
  | ⟨0, _⟩ => exact hy0.symm
  | ⟨1, _⟩ => rfl
  | ⟨2, _⟩ => rfl

/-- Half `h` of slot `s` of the outgoing partials, read through its slice, is what was written there. -/
theorem read_pout {off : Fin 3 → ℕ} (c : Dev nD) (s : Fin 3) (h : Fin 2) (ho : off = ![s.val, 256 * h.val, 0])
    (inb : ∀ a, off a + S1x256x1024.size a ≤ S3x512x1024.size a) :
    (POUT.access (Rect.unit (s := S3x512x1024) off S1x256x1024.size inb)).read (Elt F) (poutB I c) = half I c s h := by
  subst ho
  funext y
  have hy0 : y 0 = (0 : Fin 1) := Subsingleton.elim (α := Fin 1) _ _
  have hy1 : (y 1).val < 256 := (y 1).isLt
  rw [View.read_apply]
  show poutB I c ((Rect.unit (s := S3x512x1024) ![s.val, 256 * h.val, 0] S1x256x1024.size inb).emb y) = _
  unfold poutB
  have e0 : ((Rect.unit (s := S3x512x1024) ![s.val, 256 * h.val, 0] S1x256x1024.size inb).emb y) 0 = s := by
    apply Fin.ext; rw [Rect.emb_apply]; simp; exact congrArg Fin.val hy0
  have e1 : (((Rect.unit (s := S3x512x1024) ![s.val, 256 * h.val, 0] S1x256x1024.size inb).emb y) 1).val = 256 * h.val + (y 1).val := by
    rw [Rect.emb_apply]; simp
  have e2 : ((Rect.unit (s := S3x512x1024) ![s.val, 256 * h.val, 0] S1x256x1024.size inb).emb y) 2 = y 2 := by
    apply Fin.ext; rw [Rect.emb_apply]; simp
  rw [e0, e2]
  have e3 : (⟨(((Rect.unit (s := S3x512x1024) ![s.val, 256 * h.val, 0] S1x256x1024.size inb).emb y) 1).val / 256, by rw [e1]; omega⟩ : Fin 2) = h :=
    Fin.ext (by show _ / 256 = _; rw [e1]; omega)
  rw [e3]
  congr 1
  funext a
  match a with
  | ⟨0, _⟩ => exact hy0.symm
  | ⟨1, _⟩ => exact Fin.ext (by show _ % 256 = (y 1).val; rw [e1]; omega)
  | ⟨2, _⟩ => rfl

/-- A load of slot `j` of the incoming partials. -/
theorem read_pin {off : Fin 3 → ℕ} (c : Dev nD) (j : Fin 3) (ho : off = ![j.val, 0, 0])
    (inb : ∀ a, off a + S1x512x1024.size a ≤ S3x512x1024.size a) :
    (PIN.access (Rect.unit (s := S3x512x1024) off S1x512x1024.size inb)).read (Elt F) (pinB I c) = pinS I c j := by
  subst ho
  funext y
  have hy0 : y 0 = (0 : Fin 1) := Subsingleton.elim (α := Fin 1) _ _
  rw [View.read_apply]
  show pinB I c ((Rect.unit (s := S3x512x1024) ![j.val, 0, 0] S1x512x1024.size inb).emb y) = _
  unfold pinS
  congr 1
  funext a
  match a with
  | ⟨0, _⟩ => apply Fin.ext; rw [Rect.emb_apply]; simp; exact congrArg Fin.val hy0
  | ⟨1, _⟩ => apply Fin.ext; rw [Rect.emb_apply]; simp
  | ⟨2, _⟩ => apply Fin.ext; rw [Rect.emb_apply]; simp

/-- What lands in half `h` of slot `j` of a device's incoming partials from the device `j + 1` places on. -/
theorem land_pin (c : Dev nD) (j : Fin 3) (h : ℕ) {offs offd : Fin 3 → ℕ} (hs : offs = ![2 - j.val, 256 * h, 0]) (hd : offd = ![j.val, 256 * h, 0])
    (inbs : ∀ a, offs a + S1x256x1024.size a ≤ S3x512x1024.size a) (inbd : ∀ a, offd a + S1x256x1024.size a ≤ S3x512x1024.size a)
    (hq : S1x256x1024.Squeezes S256x1024) :
    ((PIN.slice (Rect.unit (s := S3x512x1024) offd S1x256x1024.size inbd) (fun _ => rfl)).squeeze S256x1024 hq).view.read (Elt F) (pinB I c)
      = ((POUT.slice (Rect.unit (s := S3x512x1024) offs S1x256x1024.size inbs) (fun _ => rfl)).squeeze S256x1024 hq).view.read (Elt F)
          (poutB I (pk c ⟨j.val + 1, by have := j.isLt; omega⟩)) := by
  subst hs hd
  funext x
  rw [View.read_apply, View.read_apply]
  obtain ⟨y, hy⟩ : ∃ y, Shape.reshapeEquiv hq.numel_eq x = y := ⟨_, rfl⟩
  show pinB I c ((Rect.unit (s := S3x512x1024) ![j.val, 256 * h, 0] S1x256x1024.size inbd).emb (Shape.reshapeEquiv hq.numel_eq x))
    = poutB I _ ((Rect.unit (s := S3x512x1024) ![2 - j.val, 256 * h, 0] S1x256x1024.size inbs).emb (Shape.reshapeEquiv hq.numel_eq x))
  rw [hy]
  have hy0 : (y 0).val = 0 := by have : (y 0).val < 1 := (y 0).isLt; omega
  have e0 : (((Rect.unit (s := S3x512x1024) ![j.val, 256 * h, 0] S1x256x1024.size inbd).emb y) 0).val = j.val := by
    rw [Rect.emb_apply]; simp [hy0]
  unfold pinB
  congr 1
  · exact congrArg _ (Fin.ext (by show _ + 1 = _ + 1; rw [e0]))
  · funext a
    match a with
    | ⟨0, _⟩ => apply Fin.ext; show 2 - _ = _; rw [e0, Rect.emb_apply]; simp [hy0]
    | ⟨1, _⟩ => apply Fin.ext; rw [Rect.emb_apply, Rect.emb_apply]; simp
    | ⟨2, _⟩ => apply Fin.ext; rw [Rect.emb_apply, Rect.emb_apply]; simp

/-! ## The projections' three blocks -/

/-- A load of one of the three blocks of the projections. -/
theorem read_w16 (c : Dev nD) (k : ℕ) (hk : k < 3) {off : Fin 2 → ℕ} (ho : off = ![0, 1024 * k])
    (inb : ∀ a, off a + S1024x1024.size a ≤ S1024x3072.size a) :
    (W16.access (Rect.unit (s := S1024x3072) off S1024x1024.size inb)).read (Elt F) (w16B I c)
      = if k = 0 then aQ I c else if k = 1 then aK I c else aV I c := by
  subst ho
  funext y
  have hy1 : (y 1).val < 1024 := (y 1).isLt
  rw [View.read_apply]
  show w16B I c ((Rect.unit (s := S1024x3072) ![0, 1024 * k] S1024x1024.size inb).emb y) = _
  unfold w16B
  have e1 : (((Rect.unit (s := S1024x3072) ![0, 1024 * k] S1024x1024.size inb).emb y) 1).val = 1024 * k + (y 1).val := by
    rw [Rect.emb_apply]; simp
  have e0 : (((Rect.unit (s := S1024x3072) ![0, 1024 * k] S1024x1024.size inb).emb y) 0) = y 0 := by
    apply Fin.ext; rw [Rect.emb_apply]; simp
  have hat : at1024 (((Rect.unit (s := S1024x3072) ![0, 1024 * k] S1024x1024.size inb).emb y) 0)
      ⟨(((Rect.unit (s := S1024x3072) ![0, 1024 * k] S1024x1024.size inb).emb y) 1).val % 1024, Nat.mod_lt _ (by decide)⟩ = y := by
    funext a
    match a with
    | ⟨0, _⟩ => exact e0
    | ⟨1, _⟩ => exact Fin.ext (by show _ % 1024 = (y 1).val; rw [e1]; omega)
  rw [hat, e1]
  have : k = 0 ∨ k = 1 ∨ k = 2 := by omega
  rcases this with rfl | rfl | rfl
  · rw [if_pos (by omega), if_pos rfl]
  · rw [if_neg (by omega), if_pos (by omega), if_neg (by decide), if_pos rfl]
  · rw [if_neg (by omega), if_neg (by omega), if_neg (by decide), if_neg (by decide)]

/-- A unit rectangle of one of the three blocks of the projections. -/
def w16S (k : ℕ) : Finset S1024x3072.Idx := Finset.univ.filter fun i => (i 1).val / 1024 = k
theorem mem_w16S {k : ℕ} {i : S1024x3072.Idx} : i ∈ w16S k ↔ (i 1).val / 1024 = k := by simp [w16S]
theorem w16_rect {k : ℕ} {off : Fin 2 → ℕ} (ho : off = ![0, 1024 * k]) (inb : ∀ a, off a + S1024x1024.size a ≤ S1024x3072.size a) :
    (Rect.unit (s := S1024x3072) off S1024x1024.size inb).set = w16S k := by
  subst ho; ext i
  have h0 : (i 0).val < 1024 := (i 0).isLt
  rw [Rect.mem_set_unit, mem_w16S]
  constructor
  · intro h
    have h1 := h 1
    simp at h1; omega
  · intro h a
    match a with
    | ⟨0, _⟩ => simp; omega
    | ⟨1, _⟩ => simp; omega
theorem w16S_disjoint {j k : ℕ} (h : j ≠ k) : Disjoint (w16S j) (w16S k) := by
  rw [Finset.disjoint_left]; intro i h0 h1; rw [mem_w16S] at h0 h1; omega
theorem w16S_cover : w16S 0 ∪ (w16S 1 ∪ w16S 2) = Finset.univ := by
  ext i
  have h1 : (i 1).val < 3072 := (i 1).isLt
  simp only [Finset.mem_union, mem_w16S, Finset.mem_univ, iff_true]; omega

end Cert.Mha

end
-- ==== Proof.Proto.lean ====
/-
# The protocol

The eighteen transfer semaphores and the barrier cell of each device as rounds cells of one round each: who pays each
duty, how much, and what each landing hands over. The barrier signal to the device `j + 1` places on hands it the
slots of the signaller's memory that device writes; a send cell's round gives the sent slice back; a receive cell's
round gives the landed slice at its contents.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The runtime's barrier semaphore (unscoped). -/
abbrev barS : Sem sig := (SemArray.scalar (sig.barrier 0 rfl) : Sems sig S_).sem

/-- The nineteen cells of a device: the barrier, then the transfer semaphores in the order the program allots them
    (three sends and three receives of `x`, six sends and six receives of partials). -/
abbrev csem : Fin 19 → SemLoc sig := fun k =>
  if h : k.val = 0 then .reg barS else .dma ⟨5 + k.val, by show _ < 24; omega⟩
abbrev xsem (i : Fin 3) : Fin 19 := ⟨1 + i.val, by omega⟩
abbrev rsem (i : Fin 3) : Fin 19 := ⟨4 + i.val, by omega⟩
abbrev psem (i : Fin 6) : Fin 19 := ⟨7 + i.val, by omega⟩
abbrev qsem (i : Fin 6) : Fin 19 := ⟨13 + i.val, by omega⟩

/-- What a cell is for. -/
inductive CK where
  | bar
  | xs (i : Fin 3)
  | xr (i : Fin 3)
  | ps (i : Fin 6)
  | pr (i : Fin 6)
  | other

/-- The use of each semaphore. -/
def kind : SemLoc sig → CK
  | .reg _ => .bar
  | .dma d =>
    if h : d.val < 6 then .other
    else if h : d.val < 9 then .xs ⟨d.val - 6, by omega⟩
    else if h : d.val < 12 then .xr ⟨d.val - 9, by omega⟩
    else if h : d.val < 18 then .ps ⟨d.val - 12, by omega⟩
    else if h : d.val < 24 then .pr ⟨d.val - 18, by omega⟩
    else .other

theorem kind_xs (i : Fin 3) : kind (csem (xsem i)) = .xs i := by fin_cases i <;> rfl
theorem kind_xr (i : Fin 3) : kind (csem (rsem i)) = .xr i := by fin_cases i <;> rfl
theorem kind_ps (i : Fin 6) : kind (csem (psem i)) = .ps i := by fin_cases i <;> rfl
theorem kind_pr (i : Fin 6) : kind (csem (qsem i)) = .pr i := by fin_cases i <;> rfl
theorem kind_bar : kind (csem 0) = .bar := rfl

abbrev kcell (ck : Dev nD × Fin 19) : GSem nD τ sig := ((ck.1 : Thread nD τ), csem ck.2)

/-- The credit of one slot of `x`, and of one half of a partial. -/
@[irreducible] def NX : ℕ := (cc0_scratch0 : Ref sig .tc).dmaCredit S1x512x1024 .bf16
@[irreducible] def NP : ℕ := (cc0_scratch1 : Ref sig .tc).dmaCredit S256x1024 .bf16
theorem NX_eq : NX = (cc0_scratch0 : Ref sig .tc).dmaCredit S1x512x1024 .bf16 := by unfold NX; rfl
theorem NP_eq : NP = (cc0_scratch1 : Ref sig .tc).dmaCredit S256x1024 .bf16 := by unfold NP; rfl
theorem NX_pos : 0 < NX := NX_eq ▸ sig.dmaCredit_pos _ _ _ _ _ (Shape.numel_pos (fun a => by fin_cases a <;> decide))
theorem NP_pos : 0 < NP := NP_eq ▸ sig.dmaCredit_pos _ _ _ _ _ (Shape.numel_pos (fun a => by fin_cases a <;> decide))

/-! ## The resources -/

/-- The share of its own slot a device lends to its send number `i`. -/
def qs : Fin 3 → PosShare TreeShare
  | 0 => (fullShare : PosShare TreeShare).left
  | 2 => (fullShare : PosShare TreeShare).right.left
  | 1 => (fullShare : PosShare TreeShare).right.right

abbrev xgPt (c : Dev nD) (S : Finset S4x512x1024.Idx) (q : PosShare TreeShare) (f : S4x512x1024.Idx → Elt F .bf16) : sProp 𝕄 :=
  ((c : Thread nD τ).loc cc0_scratch0) ↦[S]{q} (f : Buf (Elt F) ((c : Thread nD τ).loc cc0_scratch0))
abbrev pinPt (c : Dev nD) (S : Finset S3x512x1024.Idx) (f : S3x512x1024.Idx → Elt F .bf16) : sProp 𝕄 :=
  ((c : Thread nD τ).loc cc0_scratch1) ↦[S]{fullShare} (f : Buf (Elt F) ((c : Thread nD τ).loc cc0_scratch1))
abbrev poutPt (c : Dev nD) (S : Finset S3x512x1024.Idx) (f : S3x512x1024.Idx → Elt F .bf16) : sProp 𝕄 :=
  ((c : Thread nD τ).loc cc0_scratch2) ↦[S]{fullShare} (f : Buf (Elt F) ((c : Thread nD τ).loc cc0_scratch2))

variable (I : Dev nD → Ins F)

/-- What the signal numbered `j` on `p`'s barrier hands `p`: on the signaller `p + (3 - j)`, the slot of `x` and the
    two halves of the slot of partials that `p` writes there. -/
def barPay (p : Dev nD) (j : Fin 3) : sProp 𝕄 :=
  iprop((∃ f, xgPt (pk p ⟨3 - j.val, by omega⟩) (xgS p.val) fullShare f)
    ∗ (∃ f, pinPt (pk p ⟨3 - j.val, by omega⟩) (hS j.val 0) f) ∗ (∃ f, pinPt (pk p ⟨3 - j.val, by omega⟩) (hS j.val 1) f))
def xsPay (c : Dev nD) (i : Fin 3) : sProp 𝕄 := xgPt c (xgS c.val) (qs i) (xgB I)
def xrPay (c : Dev nD) (i : Fin 3) : sProp 𝕄 := xgPt c (xgS (pk c ⟨i.val + 1, by omega⟩).val) fullShare (xgB I)
def psPay (c : Dev nD) (i : Fin 6) : sProp 𝕄 := poutPt c (hS (i.val / 2) (i.val % 2)) (poutB I c)
def prPay (c : Dev nD) (i : Fin 6) : sProp 𝕄 := pinPt c (hS (i.val / 2) (i.val % 2)) (pinB I c)

instance barPay_storable (p : Dev nD) (j : Fin 3) : BI.Storable (upEmb : UEmb _ 𝕄) (barPay (F := F) p j) := by unfold barPay; infer_instance
instance xsPay_storable (c : Dev nD) (i : Fin 3) : BI.Storable (upEmb : UEmb _ 𝕄) (xsPay I c i) := by unfold xsPay; infer_instance
instance xrPay_storable (c : Dev nD) (i : Fin 3) : BI.Storable (upEmb : UEmb _ 𝕄) (xrPay I c i) := by unfold xrPay; infer_instance
instance psPay_storable (c : Dev nD) (i : Fin 6) : BI.Storable (upEmb : UEmb _ 𝕄) (psPay I c i) := by unfold psPay; infer_instance
instance prPay_storable (c : Dev nD) (i : Fin 6) : BI.Storable (upEmb : UEmb _ 𝕄) (prPay I c i) := by unfold prPay; infer_instance

/-- The duties of a cell's round 0, by its use. -/
def dutyOf : CK → Finset (Fin 3)
  | .bar => Finset.univ
  | .other => ∅
  | _ => {0}
/-- The units each duty of a cell brings, where a slot of `x` is `x` units and half a partial `p`. -/
def amtG (x p : ℕ) : CK → ℕ
  | .bar => 1
  | .xs _ => x
  | .xr _ => x
  | .ps _ => p
  | .pr _ => p
  | .other => 1
theorem amtG_pos {x p : ℕ} (hx : 0 < x) (hp : 0 < p) : ∀ k : CK, 0 < amtG x p k
  | .bar => Nat.one_pos
  | .xs _ => hx
  | .xr _ => hx
  | .ps _ => hp
  | .pr _ => hp
  | .other => Nat.one_pos
theorem amtG_xs (x p : ℕ) (i : Fin 3) : amtG x p (.xs i) = x := rfl
theorem amtG_xr (x p : ℕ) (i : Fin 3) : amtG x p (.xr i) = x := rfl
theorem amtG_ps (x p : ℕ) (i : Fin 6) : amtG x p (.ps i) = p := rfl
theorem amtG_pr (x p : ℕ) (i : Fin 6) : amtG x p (.pr i) = p := rfl
/-- The units each duty of a cell brings. -/
abbrev amtOf : CK → ℕ := amtG NX NP
/-- What each duty of a cell on device `c` hands over. -/
def payOf (c : Dev nD) : CK → Fin 3 → sProp 𝕄
  | .bar, d => barPay c d
  | .xs i, _ => xsPay I c i
  | .xr i, _ => xrPay I c i
  | .ps i, _ => psPay I c i
  | .pr i, _ => prPay I c i
  | .other, _ => iprop(emp)

theorem amtOf_pos (k : CK) : 0 < amtOf k := amtG_pos NX_pos NP_pos k

/-- The schedule: one round, round 0, on every cell of a TensorCore. -/
def Rd : Rounds.Schedule (GSem nD τ sig) (Fin 3) 𝕄 where
  duties g r := if r = 0 ∧ g.1.2 = .tc then dutyOf (kind g.2) else ∅
  unitless _ := False
  amount g _ _ := amtOf (kind g.2)
  payload g _ d := payOf I g.1.1 (kind g.2) d
  amount_pos g _ _ _ := amtOf_pos _

instance Rd_payload_storable (g : GSem nD τ sig) (r : ℕ) (d : Fin 3) : BI.Storable (upEmb : UEmb _ 𝕄) ((Rd I).payload g r d) := by
  show BI.Storable upEmb (payOf I g.1.1 (kind g.2) d)
  cases kind g.2 <;> (unfold payOf; infer_instance)

section Sched
variable (c : Dev nD)

theorem duties_cell (k : Fin 19) : (Rd I).duties (kcell (c, k)) 0 = dutyOf (kind (csem k)) := by
  show (if (0 : ℕ) = 0 ∧ ((c : Thread nD τ).2 = .tc) then dutyOf (kind (csem k)) else ∅) = _
  rw [if_pos ⟨rfl, rfl⟩]
theorem duties_later (g : GSem nD τ sig) : ∀ r, 1 ≤ r → (Rd I).duties g r = ∅ :=
  fun r hr => if_neg fun h => by omega
theorem amount_cell (k : Fin 19) (d : Fin 3) : (Rd I).amount (kcell (c, k)) 0 d = amtOf (kind (csem k)) := rfl
theorem payload_cell (k : Fin 19) (d : Fin 3) : (Rd I).payload (kcell (c, k)) 0 d = payOf I c (kind (csem k)) d := rfl

theorem expect_bar : (Rd I).expect (kcell (c, 0)) 0 = 3 := by
  unfold Schedule.expect Schedule.amountOf
  rw [duties_cell, Finset.sum_congr rfl fun d _ => amount_cell I c 0 d, Finset.sum_const]; rfl
/-- A cell of one duty expects that duty's units. -/
theorem expect_one (k : Fin 19) (h : dutyOf (kind (csem k)) = {0}) : (Rd I).expect (kcell (c, k)) 0 = amtOf (kind (csem k)) := by
  unfold Schedule.expect Schedule.amountOf; rw [duties_cell, h, Finset.sum_singleton, amount_cell]
theorem rest_bar : bigSep ((Rd I).duties (kcell (c, 0)) 0 \ ∅) (fun d => (Rd I).payload (kcell (c, 0)) 0 d)
    = iprop(barPay c 0 ∗ barPay c 1 ∗ barPay c 2) := by
  rw [Finset.sdiff_empty, duties_cell]
  exact bigSep_univ_eq_bigSepL [0, 1, 2] (by decide) (by decide) _
theorem rest_one (k : Fin 19) (h : dutyOf (kind (csem k)) = {0}) :
    bigSep ((Rd I).duties (kcell (c, k)) 0 \ ∅) (fun d => (Rd I).payload (kcell (c, k)) 0 d) = payOf I c (kind (csem k)) 0 := by
  rw [Finset.sdiff_empty, duties_cell, h, bigSep_singleton, payload_cell]

end Sched

/-! ## What each device owes at launch, in the order it pays; the levels -/

/-- The cell device `c`'s payment number `n` goes to. -/
def dcell (c : Dev nD) : ℕ → GSem nD τ sig
  | 0 => kcell (pk c 1, 0)
  | 1 => kcell (pk c 2, 0)
  | 2 => kcell (pk c 3, 0)
  | 3 => kcell (pk c 1, rsem 2)
  | 4 => kcell (pk c 3, rsem 0)
  | 5 => kcell (pk c 2, rsem 1)
  | 6 => kcell (pk c 1, qsem 4)
  | 7 => kcell (pk c 1, qsem 5)
  | 8 => kcell (pk c 3, qsem 0)
  | 9 => kcell (pk c 3, qsem 1)
  | 10 => kcell (pk c 2, qsem 2)
  | _ => kcell (pk c 2, qsem 3)
/-- Its units. -/
def damt (n : ℕ) : ℕ := if n < 3 then 1 else if n < 6 then NX else NP

/-- What device `c` still owes when `r` payments are left. -/
def Ow (c : Dev nD) : ℕ → CellTallies nD τ sig Unit
  | 0 => 0
  | r + 1 => Ow c r + tallyAt (dcell c (11 - r)) () (damt (11 - r))

theorem Ow_pos {c : Dev nD} {r : ℕ} {g : GSem nD τ sig} {u : Unit} (h : 0 < Ow c r g u) : ∃ n, 12 ≤ n + r ∧ n < 12 ∧ g = dcell c n := by
  induction r with
  | zero => exact absurd h (Nat.lt_irrefl 0)
  | succ r ih =>
    unfold Ow at h
    rw [Pi.add_apply, Finsupp.add_apply, tallyAt_apply] at h
    by_cases hg : g = dcell c (11 - r) ∧ u = ()
    · exact ⟨11 - r, by omega, by omega, hg.1⟩
    · rw [if_neg hg] at h
      obtain ⟨n, h1, h2, h3⟩ := ih h
      exact ⟨n, by omega, h2, h3⟩

def L (g : GSem nD τ sig) : Finset Unit := if g.1.2 = .tc then {()} else ∅
/-- The level of a use: the barrier below the receives of `x`, those below the receives of partials. -/
def lvOf : CK → ℕ
  | .bar => 1
  | .xr _ => 2
  | .pr _ => 3
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

theorem lv_dcell (c : Dev nD) : ∀ {n : ℕ} (h : n < 12), lv (dcell c n) () = if n < 3 then 1 else if n < 6 then 2 else 3
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | n + 12, h => absurd h (by omega)
theorem L_dcell (c : Dev nD) : ∀ {n : ℕ} (h : n < 12), L (dcell c n) = {()}
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | n + 12, h => absurd h (by omega)

/-- With `r` payments left, a wait on any cell below them is allowed. -/
theorem mayWait (c : Dev nD) (sm : SemLoc sig) (r : ℕ) (h : ∀ n, n < 12 → 12 ≤ n + r → lvOf (kind sm) < if n < 3 then 1 else if n < 6 then 2 else 3) :
    (levAts L lv : sProp 𝕄) ⊢ MayWait (c : Thread nD τ) sm () (Ow c r) :=
  MayOwe.of_cut (L := L) (lev := lv) (lvOf (kind sm)) (fun p hp => by rw [Finset.mem_singleton.mp hp, L_tc]; exact Finset.mem_singleton_self _)
    (fun g u hg => by obtain ⟨n, _, h2, rfl⟩ := Ow_pos hg; rw [L_dcell c h2]; exact Finset.mem_singleton_self _)
    (fun p hp => by rw [Finset.mem_singleton.mp hp]; exact le_refl _)
    (fun g u hg => by obtain ⟨n, h1, h2, rfl⟩ := Ow_pos hg; show _ < lv _ (); rw [lv_dcell c h2]; exact h n h2 h1)

/-! ## The records every device keeps -/

/-- Every cell's invariant, under the names `K`, and that its round 0 is reached. -/
def recs (K : Dev nD × Fin 19 → ℕ) : sProp 𝕄 :=
  iprop((bigSep Finset.univ fun ck : Dev nD × Fin 19 => cellInv ER (Rd I) (K ck) (kcell ck))
    ∗ (bigSep Finset.univ fun ck : Dev nD × Fin 19 => reached ER (kcell ck) 0))

instance recs_persistent (K : Dev nD × Fin 19 → ℕ) : BI.Persistent (recs I K) := by unfold recs; infer_instance

theorem inv_at' (K : Dev nD × Fin 19 → ℕ) (ck : Dev nD × Fin 19) :
    (bigSep Finset.univ fun ck : Dev nD × Fin 19 => (cellInv ER (Rd I) (K ck) (kcell ck) : sProp 𝕄)) ⊢ cellInv ER (Rd I) (K ck) (kcell ck) :=
  bigSep_elim (Finset.mem_univ ck)
theorem reached_at' (ck : Dev nD × Fin 19) :
    (bigSep Finset.univ fun ck : Dev nD × Fin 19 => (reached ER (kcell ck) 0 : sProp 𝕄)) ⊢ reached ER (kcell ck) 0 :=
  bigSep_elim (Finset.mem_univ ck)

theorem inv_at (K : Dev nD × Fin 19 → ℕ) (ck : Dev nD × Fin 19) : recs I K ⊢ cellInv ER (Rd I) (K ck) (kcell ck) := by
  unfold recs
  iintro ⟨H, -⟩; iapply inv_at' I K ck; iexact H
theorem reached_at (K : Dev nD × Fin 19 → ℕ) (ck : Dev nD × Fin 19) : recs I K ⊢ reached ER (kcell ck) 0 := by
  unfold recs
  iintro ⟨-, H⟩; iapply reached_at' ck; iexact H

end Cert.Mha

end
-- ==== Proof.Ops.lean ====
/-
# The operations of the body, each at the protocol's cells

One lemma per kind of operation, over the slot, the peer and the semaphore: the barrier signal and wait, the transfers of
`x` and of partials, the waits that close a cell, and the loads and stores of each buffer.
-/
module

public import proofs.«01_k».proof.Proof.Proto

@[expose] public section

noncomputable section

namespace Cert.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s TensorCore. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that is done. -/
theorem wp_done {α : Type} {Q : α → sProp 𝕄} (c : Dev nD) (a : α) : Q a ⊢ WP c (.ret a) Q := by
  show _ ⊢ wp _ _ _ _ _
  rw [wp_ret]; iintro H; imodintro; iexact H

/-- What device `c` owes with `r` payments left. -/
def ow (c : Dev nD) (r : ℕ) : sProp 𝕄 := iprop(∃ W : Waits sig Unit, owes (c : Thread nD τ) (Ow c r) W)

variable (I : Dev nD → Ins F) (K : Dev nD × Fin 19 → ℕ)

theorem amount_rsem {sp : Space} {s : Shape} {e : EltTy} (v : View sig .tc sp s e) (i : Fin 3) : v.amount (csem (rsem i)) = v.dmaCredit := by
  fin_cases i <;> rfl
theorem amount_qsem {sp : Space} {s : Shape} {e : EltTy} (v : View sig .tc sp s e) (i : Fin 6) : v.amount (csem (qsem i)) = v.dmaCredit := by
  fin_cases i <;> rfl

section Ops
variable {α : Type} {k : PUnit → Prog (TpuEff nD τ sig (Elt F) Λ₀ .tc) α}

/-- A barrier signal to `n = p`, paying duty `j` of its barrier. -/
theorem op_sig {Q : α → sProp 𝕄} (c n p : Dev nD) (hn : n = p) (j : Fin 3) (r : ℕ) (hd : dcell c (11 - r) = kcell (p, 0)) (ha : damt (11 - r) = 1) :
    iprop(recs I K ∗ ow c (r + 1) ∗ dutyTok ER (kcell (p, 0)) 0 j ∗ barPay p j)
      ⊢ iprop((ow c r -∗ WP c (k ⟨⟩) Q) -∗ WP c (.op (.semSignal (Dev.tc n : Thread nD τ) barS 1) k) Q) := by
  subst hn
  unfold ow
  have hO : Ow c (r + 1) = Ow c r + tallyAt (kcell (n, 0)) () 1 := by
    show Ow c r + tallyAt _ () _ = _; rw [hd, ha]
  rw [hO]
  iintro ⟨#HR, ⟨%W, HO⟩, Ht, Hp⟩ Hk
  iapply (Rounds.wp_signal 𝒱₀ ER (Rd I) (c : Thread nD τ) none (dst := (n : Thread nD τ)) (sem := barS) (k' := 1) (κ := K (n, 0)) (r := 0)
      (d := j) (by have h := duties_cell I n 0; rw [kind_bar] at h; exact h ▸ Finset.mem_univ _) rfl () (Ow c r)
      rfl (W := W)) $$ [HO Ht Hp]
  · isplitr; · iapply inv_at I K (n, 0); iexact HR
    isplitl [HO]; · iexact HO
    isplitl [Ht]; · iexact Ht
    isplitl [Hp]; · iapply (Entails.of_eq (show barPay n j = (Rd I).payload ((n : Thread nD τ), SemLoc.reg barS) 0 j from rfl)); iexact Hp
    iapply reached_at I K (n, 0); iexact HR
  iintro HO; iapply Hk; iexists W; iexact HO

/-- The wait for the three signals on its own barrier: what each signaller hands over, and the cell closed. -/
theorem op_bar {Q : α → sProp 𝕄} (c : Dev nD) :
    iprop(recs I K ∗ levAts L lv ∗ ow c 9 ∗ atPos ER (kcell (c, 0)) 0 ∅ 0 ∗ cred (tallyAt (kcell (c, 0)) () 3))
      ⊢ iprop(((ow c 9 ∗ semVal (kcell (c, 0)) 0 ∗ barPay c 0 ∗ barPay c 1 ∗ barPay c 2) -∗ WP c (k ⟨⟩) Q)
          -∗ WP c (.op (.semWait barS 3) k) Q) := by
  unfold ow
  iintro ⟨#HR, #HL, ⟨%W, HO⟩, Hat, Hc⟩ Hk
  iapply (Rounds.wp_wait_rest_token 𝒱₀ ER (Rd I) (c : Thread nD τ) none (κ := K (c, 0)) (sm := csem 0) (k' := 3)
      (fun Kt => wpE_semWait_eq 𝒱₀ (c : Thread nD τ) none Set.univ Kt) (Set.mem_univ _) () (O := Ow c 9) (W := W) (R := 0) (m := 0) (T := ∅)
      (by rw [show ((c : Thread nD τ), csem 0) = kcell (c, 0) from rfl, expect_bar])) $$ [Hc HO Hat]
  · isplitr; · iapply inv_at I K (c, 0); iexact HR
    isplitl [Hc]; · iexact Hc
    isplitl [HO]; · iexact HO
    isplitr; · iapply (mayWait c (csem 0) 9 (by intro n h1 h2; rw [kind_bar]; show 1 < _; split_ifs <;> omega)); iexact HL
    iexact Hat
  iintro ⟨HO, Hat, -, Hp⟩
  imod (Rounds.cell_close ER (Rd I) (Set.mem_univ (K (c, 0))) (fun h => h) (R := 0 + 1) (duties_later I (kcell (c, 0)))) $$ [Hat] with Hz
  · isplitr; · iapply inv_at I K (c, 0); iexact HR
    iexact Hat
  ihave Hp := (Entails.of_eq (rest_bar I c)) $$ Hp
  iapply Hk
  isplitl [HO]; · iexists _; iexact HO
  isplitl [Hz]; · iexact Hz
  iexact Hp

/-- The wait on one of its own transfer cells: its one payload, and the cell closed. -/
theorem op_wait {Q : α → sProp 𝕄} (c : Dev nD) (i : Fin 19) (hdu : dutyOf (kind (csem i)) = {0}) (r : ℕ)
    (hlt : ∀ n, n < 12 → 12 ≤ n + r → lvOf (kind (csem i)) < if n < 3 then 1 else if n < 6 then 2 else 3)
    {s : DmaSem sig} (hs : SemLoc.dma s = csem i)
    {sp sp' : Space} {sh sh' : Shape} {e e' : EltTy} {src : Memref sig .tc sp sh e} {dst : Memref sig .tc sp' sh' e'}
    {h1 : src.view.WordExact} {h2 : dst.view.WordExact} {N : ℕ} (hN : amtOf (kind (csem i)) = N) (hdst : dst.view.dmaCredit = N) :
    iprop(recs I K ∗ levAts L lv ∗ ow c r ∗ atPos ER (kcell (c, i)) 0 ∅ 0 ∗ cred (tallyAt (kcell (c, i)) () N))
      ⊢ iprop(((ow c r ∗ semVal (kcell (c, i)) 0 ∗ payOf I c (kind (csem i)) 0) -∗ WP c (k ⟨⟩) Q)
          -∗ WP c (.op (.waitDma2 s src dst h1 h2) k) Q) := by
  unfold ow
  iintro ⟨#HR, #HL, ⟨%W, HO⟩, Hat, Hc⟩ Hk
  iapply (Rounds.wp_wait_rest_token 𝒱₀ ER (Rd I) (c : Thread nD τ) none (κ := K (c, i)) (sm := csem i) (k' := N)
      (fun Kt => by rw [← hs, ← hdst]; exact wpE_waitDma2_eq 𝒱₀ (c : Thread nD τ) none Set.univ Kt) (Set.mem_univ _) () (O := Ow c r) (W := W) (R := 0) (m := 0) (T := ∅)
      (by rw [show ((c : Thread nD τ), csem i) = kcell (c, i) from rfl, expect_one I c i hdu, hN, Nat.zero_add])) $$ [Hc HO Hat]
  · isplitr; · iapply inv_at I K (c, i); iexact HR
    isplitl [Hc]; · iexact Hc
    isplitl [HO]; · iexact HO
    isplitr; · iapply (mayWait c _ r hlt); iexact HL
    iexact Hat
  iintro ⟨HO, Hat, -, Hp⟩
  imod (Rounds.cell_close ER (Rd I) (Set.mem_univ (K (c, i))) (fun h => h) (R := 0 + 1) (duties_later I (kcell (c, i)))) $$ [Hat] with Hz
  · isplitr; · iapply inv_at I K (c, i); iexact HR
    iexact Hat
  ihave Hp := (Entails.of_eq (rest_one I c i hdu)) $$ Hp
  iapply Hk
  isplitl [HO]; · iexists _; iexact HO
  isplitl [Hz]; · iexact Hz
  iexact Hp

/-- The transfer number `i` of a device's own slot of `x`, to the device `p`, whose cell `j` it raises. -/
theorem op_send_x {Q : α → sProp 𝕄} (c n p : Dev nD) (hn : n = p) (i j : Fin 3) (hj : pk p ⟨j.val + 1, by omega⟩ = c) (r : ℕ)
    (hd : dcell c (11 - r) = kcell (p, rsem j)) (ha : damt (11 - r) = NX)
    {off : Fin 3 → ℕ} (ho : off = ![c.val, 0, 0]) (inb inb' : ∀ a, off a + S1x512x1024.size a ≤ S4x512x1024.size a)
    {sS sV : SemLoc sig} (hS : sS = csem (xsem i)) (hV : sV = csem (rsem j))
    {hsc : (XG.slice (Rect.unit (s := S4x512x1024) off S1x512x1024.size inb') (fun _ => rfl) : Memref sig (Dev.tc n : Thread nD τ).2.kind .vmem S1x512x1024 .bf16).view.ref.isScScratch = false}
    {hsrc : (XG.slice (Rect.unit (s := S4x512x1024) off S1x512x1024.size inb) (fun _ => rfl)).view.WordExact}
    {hdst : (XG.slice (Rect.unit (s := S4x512x1024) off S1x512x1024.size inb') (fun _ => rfl)).view.WordExact}
    {hsem : DmaTarget.Typed .vmem sV (.remote (Dev.tc n : Thread nD τ) (XG.slice (Rect.unit (s := S4x512x1024) off S1x512x1024.size inb') (fun _ => rfl)) sS hsc)} :
    iprop(recs I K ∗ xgPt c (xgS c.val) (qs i) (xgB I) ∗ (∃ f, xgPt p (xgS c.val) fullShare f) ∗ ow c (r + 1)
        ∗ dutyTok ER (kcell (c, xsem i)) 0 0 ∗ dutyTok ER (kcell (p, rsem j)) 0 0)
      ⊢ iprop(((cred (tallyAt (kcell (c, xsem i)) () NX) ∗ ow c r) -∗ WP c (k ⟨⟩) Q)
          -∗ WP c (.op (.enqueueDma (XG.slice (Rect.unit (s := S4x512x1024) off S1x512x1024.size inb) (fun _ => rfl))
              (.remote (Dev.tc n : Thread nD τ) (XG.slice (Rect.unit (s := S4x512x1024) off S1x512x1024.size inb') (fun _ => rfl)) sS hsc) sV hsrc hdst hsem) k) Q) := by
  subst hn hS hV
  unfold ow
  have hset : (XG.slice (Rect.unit (s := S4x512x1024) off S1x512x1024.size inb) (fun _ => rfl)).view.set = xgS c.val :=
    (View.set_slice_whole ..).trans (xg_rect ho inb)
  have hO : Ow c (r + 1) = Ow c r + tallyAt (kcell (n, rsem j)) () NX := by
    show Ow c r + tallyAt _ () _ = _; rw [hd, ha]
  rw [hO]
  have hp1 : (Rd I).payload (kcell (c, xsem i)) 0 0 = xgPt c (xgS c.val) (qs i) (xgB I) := by
    rw [payload_cell, kind_xs]; rfl
  have hp2 : (Rd I).payload (kcell (n, rsem j)) 0 0 = xgPt n (xgS c.val) fullShare (xgB I) := by
    rw [payload_cell, kind_xr]; show xgPt n (xgS (pk n ⟨j.val + 1, _⟩).val) fullShare (xgB I) = _; rw [hj]
  iintro ⟨#HR, Hx, ⟨%f, Hf⟩, ⟨%W, HO⟩, HtS, HtV⟩ Hk
  iapply (Rounds.wp_send_pointsTo 𝒱₀ ER (Rd I) (c : Thread nD τ) none (κ₁ := K (c, xsem i)) (κ₂ := K (n, rsem j))
    (sS := csem (xsem i)) (sem := csem (rsem j)) (c' := (n : Thread nD τ))
    (src := XG.slice (Rect.unit (s := S4x512x1024) off S1x512x1024.size inb) (fun _ => rfl))
    (dst := XG.slice (Rect.unit (s := S4x512x1024) off S1x512x1024.size inb') (fun _ => rfl))
    (r₁ := 0) (r₂ := 0) (d₁ := 0) (d₂ := 0) (fd := f) (fs := xgB I) (q := qs i)
    (by have h := duties_cell I c (xsem i); rw [kind_xs] at h; exact h ▸ Finset.mem_singleton_self _)
    (by have h := duties_cell I n (rsem j); rw [kind_xr] at h; exact h ▸ Finset.mem_singleton_self _)
    () () NX ((amount_rsem _ j).trans NX_eq.symm)
    ((amount_cell I c (xsem i) 0).trans (by rw [kind_xs]; exact amtG_xs ..))
    ((amount_cell I n (rsem j) 0).trans (by rw [kind_xr]; exact amtG_xr ..))
    (Ow c r) rfl (W := W)
    (by rw [hset]; exact Entails.of_eq hp1.symm)
    (by
      refine Entails.trans (Entails.of_eq ?_) (Entails.of_eq hp2.symm)
      rw [← hset]
      exact pointsTo_congr (write_same (XG.slice (Rect.unit (s := S4x512x1024) off S1x512x1024.size inb') (fun _ => rfl)).view f (xgB I) _ rfl))) $$ [Hx Hf HO HtS HtV]
  · isplitr; · iapply inv_at I K (c, xsem i); iexact HR
    isplitr; · iapply inv_at I K (n, rsem j); iexact HR
    isplitl [Hx]; · rw [hset]; iexact Hx
    isplitl [Hf]; · iapply (Entails.of_eq (by rw [← hset])) $$ Hf
    isplitl [HO]; · iexact HO
    isplitl [HtS]; · iexact HtS
    isplitr; · iapply reached_at I K (c, xsem i); iexact HR
    isplitl [HtV]; · iexact HtV
    iapply reached_at I K (n, rsem j); iexact HR
  iintro ⟨Hc, HO⟩
  iapply Hk
  isplitl [Hc]; · iexact Hc
  iexists W; iexact HO

/-- The transfer number `i` of a half of an outgoing partial, to the device `p` that slot is for, whose cell `j` it
    raises. -/
theorem op_send_p {Q : α → sProp 𝕄} (c n p : Dev nD) (hnp : n = p) (i j : Fin 6) (hn : p = pk c ⟨i.val / 2 + 1, by omega⟩)
    (hij : j.val / 2 = 2 - i.val / 2 ∧ j.val % 2 = i.val % 2) (a b d e : ℕ) (hia : i.val / 2 = a) (hib : i.val % 2 = b) (hjd : j.val / 2 = d) (hje : j.val % 2 = e) (r : ℕ)
    (hd : dcell c (11 - r) = kcell (p, qsem j)) (ha : damt (11 - r) = NP)
    {offs offd : Fin 3 → ℕ} (hos : offs = ![i.val / 2, 256 * (i.val % 2), 0]) (hod : offd = ![j.val / 2, 256 * (j.val % 2), 0])
    (inbs : ∀ a, offs a + S1x256x1024.size a ≤ S3x512x1024.size a) (inbd : ∀ a, offd a + S1x256x1024.size a ≤ S3x512x1024.size a)
    {sS sV : SemLoc sig} (hSs : sS = csem (psem i)) (hV : sV = csem (qsem j))
    {hsc : ((PIN.slice (Rect.unit (s := S3x512x1024) offd S1x256x1024.size inbd) (fun _ => rfl)).squeeze S256x1024 squeezes_S1x256x1024_S256x1024 : Memref sig (Dev.tc n : Thread nD τ).2.kind .vmem S256x1024 .bf16).view.ref.isScScratch = false}
    {hsrc : ((POUT.slice (Rect.unit (s := S3x512x1024) offs S1x256x1024.size inbs) (fun _ => rfl)).squeeze S256x1024 squeezes_S1x256x1024_S256x1024).view.WordExact}
    {hdst : ((PIN.slice (Rect.unit (s := S3x512x1024) offd S1x256x1024.size inbd) (fun _ => rfl)).squeeze S256x1024 squeezes_S1x256x1024_S256x1024).view.WordExact}
    {hsem : DmaTarget.Typed .vmem sV (.remote (Dev.tc n : Thread nD τ) ((PIN.slice (Rect.unit (s := S3x512x1024) offd S1x256x1024.size inbd) (fun _ => rfl)).squeeze S256x1024 squeezes_S1x256x1024_S256x1024) sS hsc)} :
    iprop(recs I K ∗ poutPt c (hS a b) (poutB I c) ∗ (∃ f, pinPt p (hS d e) f) ∗ ow c (r + 1)
        ∗ dutyTok ER (kcell (c, psem i)) 0 0 ∗ dutyTok ER (kcell (p, qsem j)) 0 0)
      ⊢ iprop(((cred (tallyAt (kcell (c, psem i)) () NP) ∗ ow c r) -∗ WP c (k ⟨⟩) Q)
          -∗ WP c (.op (.enqueueDma ((POUT.slice (Rect.unit (s := S3x512x1024) offs S1x256x1024.size inbs) (fun _ => rfl)).squeeze S256x1024 squeezes_S1x256x1024_S256x1024)
              (.remote (Dev.tc n : Thread nD τ) ((PIN.slice (Rect.unit (s := S3x512x1024) offd S1x256x1024.size inbd) (fun _ => rfl)).squeeze S256x1024 squeezes_S1x256x1024_S256x1024) sS hsc) sV hsrc hdst hsem) k) Q) := by
  subst hia hib hjd hje
  subst hnp
  subst hSs hV
  unfold ow
  have hsets : ((POUT.slice (Rect.unit (s := S3x512x1024) offs S1x256x1024.size inbs) (fun _ => rfl)).squeeze S256x1024 squeezes_S1x256x1024_S256x1024).view.set = hS (i.val / 2) (i.val % 2) :=
    (View.set_reshape ..).trans ((View.set_slice_whole ..).trans (half_rect hos inbs))
  have hsetd : ((PIN.slice (Rect.unit (s := S3x512x1024) offd S1x256x1024.size inbd) (fun _ => rfl)).squeeze S256x1024 squeezes_S1x256x1024_S256x1024).view.set = hS (j.val / 2) (j.val % 2) :=
    (View.set_reshape ..).trans ((View.set_slice_whole ..).trans (half_rect hod inbd))
  have hO : Ow c (r + 1) = Ow c r + tallyAt (kcell (n, qsem j)) () NP := by
    show Ow c r + tallyAt _ () _ = _; rw [hd, ha]
  rw [hO]
  have hp1 : (Rd I).payload (kcell (c, psem i)) 0 0 = poutPt c (hS (i.val / 2) (i.val % 2)) (poutB I c) := by
    rw [payload_cell, kind_ps]; rfl
  have hp2 : (Rd I).payload (kcell (n, qsem j)) 0 0 = pinPt n (hS (j.val / 2) (j.val % 2)) (pinB I n) := by
    rw [payload_cell, kind_pr]; rfl
  have hback : pk n ⟨(⟨j.val / 2, by omega⟩ : Fin 3).val + 1, by show j.val / 2 + 1 < 4; omega⟩ = c := by
    subst hn
    refine Fin.ext ?_
    have hc : c.val < 4 := c.isLt
    have hi : i.val < 6 := i.isLt
    show ((c.val + (i.val / 2 + 1)) % 4 + (j.val / 2 + 1)) % 4 = c.val
    omega
  have hland : ((PIN.slice (Rect.unit (s := S3x512x1024) offd S1x256x1024.size inbd) (fun _ => rfl)).squeeze S256x1024 squeezes_S1x256x1024_S256x1024).view.read (Elt F) (pinB I n)
      = ((POUT.slice (Rect.unit (s := S3x512x1024) offs S1x256x1024.size inbs) (fun _ => rfl)).squeeze S256x1024 squeezes_S1x256x1024_S256x1024).view.read (Elt F) (poutB I c) := by
    have h := land_pin I n ⟨j.val / 2, by omega⟩ (j.val % 2) (offs := offs) (offd := offd)
      (by rw [hos]; show _ = ![2 - j.val / 2, _, _]; have hi : i.val < 6 := i.isLt; rw [hij.1, hij.2, show 2 - (2 - i.val / 2) = i.val / 2 by omega]) hod inbs inbd squeezes_S1x256x1024_S256x1024
    rw [hback] at h; exact h
  iintro ⟨#HR, Hx, ⟨%f, Hf⟩, ⟨%W, HO⟩, HtS, HtV⟩ Hk
  iapply (Rounds.wp_send_pointsTo 𝒱₀ ER (Rd I) (c : Thread nD τ) none (κ₁ := K (c, psem i)) (κ₂ := K (n, qsem j))
    (sS := csem (psem i)) (sem := csem (qsem j)) (c' := (n : Thread nD τ))
    (src := (POUT.slice (Rect.unit (s := S3x512x1024) offs S1x256x1024.size inbs) (fun _ => rfl)).squeeze S256x1024 squeezes_S1x256x1024_S256x1024)
    (dst := (PIN.slice (Rect.unit (s := S3x512x1024) offd S1x256x1024.size inbd) (fun _ => rfl)).squeeze S256x1024 squeezes_S1x256x1024_S256x1024)
    (r₁ := 0) (r₂ := 0) (d₁ := 0) (d₂ := 0) (fd := f) (fs := poutB I c) (q := fullShare)
    (by have h := duties_cell I c (psem i); rw [kind_ps] at h; exact h ▸ Finset.mem_singleton_self _)
    (by have h := duties_cell I n (qsem j); rw [kind_pr] at h; exact h ▸ Finset.mem_singleton_self _)
    () () NP ((amount_qsem _ j).trans NP_eq.symm)
    ((amount_cell I c (psem i) 0).trans (by rw [kind_ps]; exact amtG_ps ..))
    ((amount_cell I n (qsem j) 0).trans (by rw [kind_pr]; exact amtG_pr ..))
    (Ow c r) rfl (W := W)
    (by rw [hsets]; exact Entails.of_eq hp1.symm)
    (by
      refine Entails.trans (Entails.of_eq ?_) (Entails.of_eq hp2.symm)
      rw [← hsetd]
      exact pointsTo_congr (write_same ((PIN.slice (Rect.unit (s := S3x512x1024) offd S1x256x1024.size inbd) (fun _ => rfl)).squeeze S256x1024 squeezes_S1x256x1024_S256x1024).view f (pinB I n) _ hland))) $$ [Hx Hf HO HtS HtV]
  · isplitr; · iapply inv_at I K (c, psem i); iexact HR
    isplitr; · iapply inv_at I K (n, qsem j); iexact HR
    isplitl [Hx]; · rw [hsets]; iexact Hx
    isplitl [Hf]; · iapply (Entails.of_eq (by rw [← hsetd])) $$ Hf
    isplitl [HO]; · iexact HO
    isplitl [HtS]; · iexact HtS
    isplitr; · iapply reached_at I K (c, psem i); iexact HR
    isplitl [HtV]; · iexact HtV
    iapply reached_at I K (n, qsem j); iexact HR
  iintro ⟨Hc, HO⟩
  iapply Hk
  isplitl [Hc]; · iexact Hc
  iexists W; iexact HO

/-- The wait on its send cell `i` of `x`: the share it lent comes back. -/
theorem op_wait_xs {Q : α → sProp 𝕄} (c : Dev nD) (i : Fin 3) (r : ℕ) {s : DmaSem sig} (hs : SemLoc.dma s = csem (xsem i))
    {sp sp' : Space} {sh sh' : Shape} {e e' : EltTy} {src : Memref sig .tc sp sh e} {dst : Memref sig .tc sp' sh' e'}
    {h1 : src.view.WordExact} {h2 : dst.view.WordExact} (hdst : dst.view.dmaCredit = NX) :
    iprop(recs I K ∗ levAts L lv ∗ ow c r ∗ atPos ER (kcell (c, xsem i)) 0 ∅ 0 ∗ cred (tallyAt (kcell (c, xsem i)) () NX))
      ⊢ iprop(((ow c r ∗ semVal (kcell (c, xsem i)) 0 ∗ xgPt c (xgS c.val) (qs i) (xgB I)) -∗ WP c (k ⟨⟩) Q)
          -∗ WP c (.op (.waitDma2 s src dst h1 h2) k) Q) := by
  have h := op_wait I K (Q := Q) (k := k) c (xsem i) (by rw [kind_xs]; rfl) r
    (by intro n _ _; rw [kind_xs]; show 0 < _; split_ifs <;> omega) hs (h1 := h1) (h2 := h2)
    (by rw [kind_xs]; exact amtG_xs ..) hdst
  rw [kind_xs] at h; exact h
/-- The wait on its receive cell `j` of `x`: the slot that lands there. -/
theorem op_wait_xr {Q : α → sProp 𝕄} (c : Dev nD) (j : Fin 3) (b : Dev nD) (hjb : pk c ⟨j.val + 1, by omega⟩ = b) (r : ℕ) (hr : r ≤ 6) {s : DmaSem sig} (hs : SemLoc.dma s = csem (rsem j))
    {sp sp' : Space} {sh sh' : Shape} {e e' : EltTy} {src : Memref sig .tc sp sh e} {dst : Memref sig .tc sp' sh' e'}
    {h1 : src.view.WordExact} {h2 : dst.view.WordExact} (hdst : dst.view.dmaCredit = NX) :
    iprop(recs I K ∗ levAts L lv ∗ ow c r ∗ atPos ER (kcell (c, rsem j)) 0 ∅ 0 ∗ cred (tallyAt (kcell (c, rsem j)) () NX))
      ⊢ iprop(((ow c r ∗ semVal (kcell (c, rsem j)) 0 ∗ xgPt c (xgS b.val) fullShare (xgB I)) -∗ WP c (k ⟨⟩) Q)
          -∗ WP c (.op (.waitDma2 s src dst h1 h2) k) Q) := by
  subst hjb
  have h := op_wait I K (Q := Q) (k := k) c (rsem j) (by rw [kind_xr]; rfl) r
    (by intro n _ _; rw [kind_xr]; show 2 < _; split_ifs <;> omega) hs (h1 := h1) (h2 := h2)
    (by rw [kind_xr]; exact amtG_xr ..) hdst
  rw [kind_xr] at h; exact h
/-- The wait on its send cell `i` of partials: the half it sent comes back. -/
theorem op_wait_ps {Q : α → sProp 𝕄} (c : Dev nD) (i : Fin 6) (a b : ℕ) (hsa : i.val / 2 = a) (hhb : i.val % 2 = b) (r : ℕ) {s : DmaSem sig} (hs : SemLoc.dma s = csem (psem i))
    {sp sp' : Space} {sh sh' : Shape} {e e' : EltTy} {src : Memref sig .tc sp sh e} {dst : Memref sig .tc sp' sh' e'}
    {h1 : src.view.WordExact} {h2 : dst.view.WordExact} (hdst : dst.view.dmaCredit = NP) :
    iprop(recs I K ∗ levAts L lv ∗ ow c r ∗ atPos ER (kcell (c, psem i)) 0 ∅ 0 ∗ cred (tallyAt (kcell (c, psem i)) () NP))
      ⊢ iprop(((ow c r ∗ semVal (kcell (c, psem i)) 0 ∗ poutPt c (hS a b) (poutB I c)) -∗ WP c (k ⟨⟩) Q)
          -∗ WP c (.op (.waitDma2 s src dst h1 h2) k) Q) := by
  subst hsa hhb
  have h := op_wait I K (Q := Q) (k := k) c (psem i) (by rw [kind_ps]; rfl) r
    (by intro n _ _; rw [kind_ps]; show 0 < _; split_ifs <;> omega) hs (h1 := h1) (h2 := h2)
    (by rw [kind_ps]; exact amtG_ps ..) hdst
  rw [kind_ps] at h; exact h
/-- The wait on its receive cell `j` of partials: the half that lands there. -/
theorem op_wait_pr {Q : α → sProp 𝕄} (c : Dev nD) (j : Fin 6) (a b : ℕ) (hsa : j.val / 2 = a) (hhb : j.val % 2 = b) {s : DmaSem sig} (hs : SemLoc.dma s = csem (qsem j))
    {sp sp' : Space} {sh sh' : Shape} {e e' : EltTy} {src : Memref sig .tc sp sh e} {dst : Memref sig .tc sp' sh' e'}
    {h1 : src.view.WordExact} {h2 : dst.view.WordExact} (hdst : dst.view.dmaCredit = NP) :
    iprop(recs I K ∗ levAts L lv ∗ ow c 0 ∗ atPos ER (kcell (c, qsem j)) 0 ∅ 0 ∗ cred (tallyAt (kcell (c, qsem j)) () NP))
      ⊢ iprop(((ow c 0 ∗ semVal (kcell (c, qsem j)) 0 ∗ pinPt c (hS a b) (pinB I c)) -∗ WP c (k ⟨⟩) Q)
          -∗ WP c (.op (.waitDma2 s src dst h1 h2) k) Q) := by
  subst hsa hhb
  have h := op_wait I K (Q := Q) (k := k) c (qsem j) (by rw [kind_pr]; rfl) 0
    (by intro n _ _; omega) hs (h1 := h1) (h2 := h2)
    (by rw [kind_pr]; exact amtG_pr ..) hdst
  rw [kind_pr] at h; exact h

end Ops

/-! ## Loads and stores -/

section Mem
variable {α : Type}

/-- `wp_load` for a program of device `c`. -/
theorem ld {Q : α → sProp 𝕄} (c : Dev nD) {s : Shape} {e : EltTy} (m : Memref sig .tc .vmem s e) (r : LoadRect s) {hl : m.view.LoadsAt r}
    {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (hS : m.view.setOn r.set ⊆ S) :
    (m.view.loc (c : Thread nD τ) ↦[S]{q} f : sProp 𝕄)
      ⊢ iprop(((m.view.loc (c : Thread nD τ) ↦[S]{q} f) -∗ WP c (k (m.view.readAt (Elt F) r f)) Q) -∗ WP c (.op (.load m r hl) k) Q) :=
  wp_load 𝒱₀ (c : Thread nD τ) none Set.univ hS
/-- `wp_load_rect` for a program of device `c`. -/
theorem ldr {Q : α → sProp 𝕄} (c : Dev nD) {s : Shape} {e : EltTy} (m : Memref sig .tc .vmem s e) (r : Rect s) {hl : m.view.LoadsAt r.toLoadRect}
    {k : (r.shape.Idx → Elt F e) → Prog (TpuEff nD τ sig (Elt F) Λ₀ .tc) α}
    {S : Finset (Idx ((m.access r).loc (c : Thread nD τ)))} {q : PosShare TreeShare} {f : Buf (Elt F) ((m.access r).loc (c : Thread nD τ))}
    (hS : (m.access r).set ⊆ S) :
    ((m.access r).loc (c : Thread nD τ) ↦[S]{q} f : sProp 𝕄)
      ⊢ iprop((((m.access r).loc (c : Thread nD τ) ↦[S]{q} f) -∗ WP c (k ((m.access r).read (Elt F) f)) Q) -∗ WP c (.op (.load m r.toLoadRect hl) k) Q) :=
  wp_load_rect 𝒱₀ (c : Thread nD τ) none Set.univ hS
/-- `wp_store` of a whole rectangle for a program of device `c`. -/
theorem str {Q : α → sProp 𝕄} (c : Dev nD) {s : Shape} {e : EltTy} (m : Memref sig .tc .vmem s e) (r : Rect s) {w : r.shape.Idx → Elt F e}
    {hx : (m.access r).Stores Finset.univ} {hm} {k : PUnit → Prog (TpuEff nD τ sig (Elt F) Λ₀ .tc) α}
    {S : Finset (Idx ((m.access r).loc (c : Thread nD τ)))} {f : Buf (Elt F) ((m.access r).loc (c : Thread nD τ))}
    (hS : (m.access r).set ⊆ S) :
    ((m.access r).loc (c : Thread nD τ) ↦[S]{fullShare} f : sProp 𝕄)
      ⊢ iprop((((m.access r).loc (c : Thread nD τ) ↦[S]{fullShare} ((m.access r).write (Elt F) f w Finset.univ)) -∗ WP c (k ⟨⟩) Q)
        -∗ WP c (.op (.store m r w Finset.univ hx hm) k) Q) :=
  wp_store 𝒱₀ (c : Thread nD τ) none Set.univ hS

abbrev xRect (off : Fin 3 → ℕ) (inb : ∀ a, off a + S1x512x1024.size a ≤ S4x512x1024.size a) : Rect S4x512x1024 :=
  Rect.unit (s := S4x512x1024) off S1x512x1024.size inb
abbrev hRect (off : Fin 3 → ℕ) (inb : ∀ a, off a + S1x256x1024.size a ≤ S3x512x1024.size a) : Rect S3x512x1024 :=
  Rect.unit (s := S3x512x1024) off S1x256x1024.size inb
abbrev sRect (off : Fin 3 → ℕ) (inb : ∀ a, off a + S1x512x1024.size a ≤ S3x512x1024.size a) : Rect S3x512x1024 :=
  Rect.unit (s := S3x512x1024) off S1x512x1024.size inb
abbrev wRect (off : Fin 2 → ℕ) (inb : ∀ a, off a + S1024x1024.size a ≤ S1024x3072.size a) : Rect S1024x3072 :=
  Rect.unit (s := S1024x3072) off S1024x1024.size inb

/-- A load of a slot of `x` at any contents. -/
theorem op_ld_x_any {Q : α → sProp 𝕄} (c : Dev nD) (b : ℕ) (q : PosShare TreeShare) (f : S4x512x1024.Idx → Elt F .bf16) {off : Fin 3 → ℕ} (ho : off = ![b, 0, 0])
    {inb : ∀ a, off a + S1x512x1024.size a ≤ S4x512x1024.size a} {hl : XG.view.LoadsAt (xRect off inb).toLoadRect}
    {k : Vec F S1x512x1024 .bf16 → Prog (TpuEff nD τ sig (Elt F) Λ₀ .tc) α} :
    xgPt c (xgS b) q f ⊢ iprop((xgPt c (xgS b) q f -∗ WP c (k ((XG.access (xRect off inb)).read (Elt F) f)) Q)
      -∗ WP c (.op (.load XG (xRect off inb).toLoadRect hl) k) Q) :=
  ldr c (m := XG) (r := xRect off inb)
    ((View.set_slice_whole ..).trans (xg_rect ho inb)).subset
/-- A load of slot `b` of `x` once it is there. -/
theorem op_ld_x {Q : α → sProp 𝕄} (c b : Dev nD) (q : PosShare TreeShare) {off : Fin 3 → ℕ} (ho : off = ![b.val, 0, 0])
    {inb : ∀ a, off a + S1x512x1024.size a ≤ S4x512x1024.size a} {hl : XG.view.LoadsAt (xRect off inb).toLoadRect}
    {k : Vec F S1x512x1024 .bf16 → Prog (TpuEff nD τ sig (Elt F) Λ₀ .tc) α} :
    xgPt c (xgS b.val) q (xgB I) ⊢ iprop((xgPt c (xgS b.val) q (xgB I) -∗ WP c (k (xs I b)) Q)
      -∗ WP c (.op (.load XG (xRect off inb).toLoadRect hl) k) Q) := by
  have h := op_ld_x_any (Q := Q) (hl := hl) (k := k) c b.val q (xgB I) ho (inb := inb)
  rw [read_xg I ho inb] at h; exact h
/-- The store of device `b`'s batch entry to slot `b`. -/
theorem op_st_x {Q : α → sProp 𝕄} (c b : Dev nD) (f : S4x512x1024.Idx → Elt F .bf16) {off : Fin 3 → ℕ} (ho : off = ![b.val, 0, 0])
    {inb : ∀ a, off a + S1x512x1024.size a ≤ S4x512x1024.size a} {w : Vec F S1x512x1024 .bf16} (hw : w = xs I b)
    {hx : (XG.access (xRect off inb)).Stores Finset.univ} {hm}
    {k : PUnit → Prog (TpuEff nD τ sig (Elt F) Λ₀ .tc) α} :
    xgPt c (xgS b.val) fullShare f ⊢ iprop((xgPt c (xgS b.val) fullShare (xgB I) -∗ WP c (k ⟨⟩) Q)
      -∗ WP c (.op (.store XG (xRect off inb) w Finset.univ hx hm) k) Q) := by
  have hset : (XG.access (xRect off inb)).set = xgS b.val := (View.set_slice_whole ..).trans (xg_rect ho inb)
  have hc : (((XG.access (xRect off inb)).loc (c : Thread nD τ)) ↦[xgS b.val]{fullShare} ((XG.access (xRect off inb)).write (Elt F) f w Finset.univ) : sProp 𝕄)
      = xgPt c (xgS b.val) fullShare (xgB I) :=
    pointsTo_congr (fun i hi => write_same (XG.access (xRect off inb)) f _ w (by rw [hw]; exact read_xg I ho inb) i (hset ▸ hi))
  iintro H Hk
  iapply (str c XG (xRect off inb) (S := xgS b.val) (f := f) hset.subset) $$ H
  iintro H
  iapply Hk
  iapply (Entails.of_eq hc) $$ H

/-- A load of a half of an outgoing slot at any contents. -/
theorem op_ld_pout_any {Q : α → sProp 𝕄} (c : Dev nD) (s : Fin 3) (h : Fin 2) (a b : ℕ) (hsa : s.val = a) (hhb : h.val = b) (f : S3x512x1024.Idx → Elt F .bf16) {off : Fin 3 → ℕ} (ho : off = ![s.val, 256 * h.val, 0])
    {inb : ∀ a, off a + S1x256x1024.size a ≤ S3x512x1024.size a} {hl : POUT.view.LoadsAt (hRect off inb).toLoadRect}
    {k : Vec F S1x256x1024 .bf16 → Prog (TpuEff nD τ sig (Elt F) Λ₀ .tc) α} :
    poutPt c (hS a b) f ⊢ iprop((poutPt c (hS a b) f -∗ WP c (k ((POUT.access (hRect off inb)).read (Elt F) f)) Q)
      -∗ WP c (.op (.load POUT (hRect off inb).toLoadRect hl) k) Q) := by
  subst hsa hhb
  exact ldr c (m := POUT) (r := hRect off inb)
    ((View.set_slice_whole ..).trans (half_rect ho inb)).subset
/-- The store of half `h` of the partial output of slot `s`. -/
theorem op_st_pout {Q : α → sProp 𝕄} (c : Dev nD) (s : Fin 3) (h : Fin 2) (a b : ℕ) (hsa : s.val = a) (hhb : h.val = b) (f : S3x512x1024.Idx → Elt F .bf16) {off : Fin 3 → ℕ} (ho : off = ![s.val, 256 * h.val, 0])
    {inb : ∀ a, off a + S1x256x1024.size a ≤ S3x512x1024.size a} {w : Vec F S1x256x1024 .bf16} (hw : w = half I c s h)
    {hx : (POUT.access (hRect off inb)).Stores Finset.univ} {hm}
    {k : PUnit → Prog (TpuEff nD τ sig (Elt F) Λ₀ .tc) α} :
    poutPt c (hS a b) f ⊢ iprop((poutPt c (hS a b) (poutB I c) -∗ WP c (k ⟨⟩) Q)
      -∗ WP c (.op (.store POUT (hRect off inb) w Finset.univ hx hm) k) Q) := by
  subst hsa hhb
  have hset : (POUT.access (hRect off inb)).set = hS s.val h.val := (View.set_slice_whole ..).trans (half_rect ho inb)
  have hc : (((POUT.access (hRect off inb)).loc (c : Thread nD τ)) ↦[hS s.val h.val]{fullShare} ((POUT.access (hRect off inb)).write (Elt F) f w Finset.univ) : sProp 𝕄)
      = poutPt c (hS s.val h.val) (poutB I c) :=
    pointsTo_congr (fun i hi => write_same (POUT.access (hRect off inb)) f _ w (by rw [hw]; exact read_pout I c s h ho inb) i (hset ▸ hi))
  iintro H Hk
  iapply (str c POUT (hRect off inb) (S := hS s.val h.val) (f := f) hset.subset) $$ H
  iintro H
  iapply Hk
  iapply (Entails.of_eq hc) $$ H

/-- The load of an incoming slot once both halves are there. -/
theorem op_ld_pin {Q : α → sProp 𝕄} (c : Dev nD) (j : Fin 3) (a : ℕ) (hja : j.val = a) {off : Fin 3 → ℕ} (ho : off = ![j.val, 0, 0])
    {inb : ∀ a, off a + S1x512x1024.size a ≤ S3x512x1024.size a} {hl : PIN.view.LoadsAt (sRect off inb).toLoadRect}
    {k : Vec F S1x512x1024 .bf16 → Prog (TpuEff nD τ sig (Elt F) Λ₀ .tc) α} :
    pinPt c (slotS a) (pinB I c) ⊢ iprop((pinPt c (slotS a) (pinB I c) -∗ WP c (k (pinS I c j)) Q)
      -∗ WP c (.op (.load PIN (sRect off inb).toLoadRect hl) k) Q) := by
  subst hja
  have h := ldr (Q := Q) (hl := hl) (k := k) (q := fullShare) (f := pinB I c) (S := slotS j.val) c (m := PIN) (r := sRect off inb)
    ((View.set_slice_whole ..).trans (slot_rect ho inb)).subset
  rw [read_pin I c j ho inb] at h; exact h

abbrev w16Pt (c : Dev nD) (S : Finset S1024x3072.Idx) (f : S1024x3072.Idx → Elt F .bf16) : sProp 𝕄 :=
  ((c : Thread nD τ).loc cc0_scratch3) ↦[S]{fullShare} (f : Buf (Elt F) ((c : Thread nD τ).loc cc0_scratch3))
/-- Block `k` of the three projections. -/
def wBlk (c : Dev nD) (k : ℕ) : Vec F S1024x1024 .bf16 := if k = 0 then aQ I c else if k = 1 then aK I c else aV I c

/-- A load of a projection's columns at any contents. -/
theorem op_ld_w_any {Q : α → sProp 𝕄} (c : Dev nD) (b : ℕ) (f : S1024x3072.Idx → Elt F .bf16) {off : Fin 2 → ℕ} (ho : off = ![0, 1024 * b])
    {inb : ∀ a, off a + S1024x1024.size a ≤ S1024x3072.size a} {hl : W16.view.LoadsAt (wRect off inb).toLoadRect}
    {k : Vec F S1024x1024 .bf16 → Prog (TpuEff nD τ sig (Elt F) Λ₀ .tc) α} :
    w16Pt c (w16S b) f ⊢ iprop((w16Pt c (w16S b) f -∗ WP c (k ((W16.access (wRect off inb)).read (Elt F) f)) Q)
      -∗ WP c (.op (.load W16 (wRect off inb).toLoadRect hl) k) Q) :=
  ldr c (m := W16) (r := wRect off inb)
    ((View.set_slice_whole ..).trans (w16_rect ho inb)).subset
/-- The load of projection `b` once the three are there. -/
theorem op_ld_w {Q : α → sProp 𝕄} (c : Dev nD) (b : ℕ) (hb : b < 3) {off : Fin 2 → ℕ} (ho : off = ![0, 1024 * b])
    {inb : ∀ a, off a + S1024x1024.size a ≤ S1024x3072.size a} {hl : W16.view.LoadsAt (wRect off inb).toLoadRect}
    {k : Vec F S1024x1024 .bf16 → Prog (TpuEff nD τ sig (Elt F) Λ₀ .tc) α} :
    w16Pt c (w16S b) (w16B I c) ⊢ iprop((w16Pt c (w16S b) (w16B I c) -∗ WP c (k (wBlk I c b)) Q)
      -∗ WP c (.op (.load W16 (wRect off inb).toLoadRect hl) k) Q) := by
  have h := op_ld_w_any (Q := Q) (hl := hl) (k := k) c b (w16B I c) ho (inb := inb)
  rw [read_w16 I c b hb ho inb] at h; exact h
/-- The store of projection `b`. -/
theorem op_st_w {Q : α → sProp 𝕄} (c : Dev nD) (b : ℕ) (hb : b < 3) (f : S1024x3072.Idx → Elt F .bf16) {off : Fin 2 → ℕ} (ho : off = ![0, 1024 * b])
    {inb : ∀ a, off a + S1024x1024.size a ≤ S1024x3072.size a} {w : Vec F S1024x1024 .bf16} (hw : w = wBlk I c b)
    {hx : (W16.access (wRect off inb)).Stores Finset.univ} {hm}
    {k : PUnit → Prog (TpuEff nD τ sig (Elt F) Λ₀ .tc) α} :
    w16Pt c (w16S b) f ⊢ iprop((w16Pt c (w16S b) (w16B I c) -∗ WP c (k ⟨⟩) Q)
      -∗ WP c (.op (.store W16 (wRect off inb) w Finset.univ hx hm) k) Q) := by
  have hset : (W16.access (wRect off inb)).set = w16S b := (View.set_slice_whole ..).trans (w16_rect ho inb)
  have hc : (((W16.access (wRect off inb)).loc (c : Thread nD τ)) ↦[w16S b]{fullShare} ((W16.access (wRect off inb)).write (Elt F) f w Finset.univ) : sProp 𝕄)
      = w16Pt c (w16S b) (w16B I c) :=
    pointsTo_congr (fun i hi => write_same (W16.access (wRect off inb)) f _ w (by rw [hw]; exact read_w16 I c b hb ho inb) i (hset ▸ hi))
  iintro H Hk
  iapply (str c W16 (wRect off inb) (S := w16S b) (f := f) hset.subset) $$ H
  iintro H
  iapply Hk
  iapply (Entails.of_eq hc) $$ H

/-- A whole buffer of device `c`. -/
abbrev whPt (c : Dev nD) (b : Ref sig .tc) (f : b.ty.Contents (Elt F)) : sProp 𝕄 :=
  ((c : Thread nD τ).loc b) ↦{fullShare} (f : Buf (Elt F) ((c : Thread nD τ).loc b))

theorem hz2 : (![0, 0] : Fin 2 → ℕ) = fun _ => 0 := funext fun a => by fin_cases a <;> rfl
theorem hz3 : (![0, 0, 0] : Fin 3 → ℕ) = fun _ => 0 := funext fun a => by fin_cases a <;> rfl
abbrev r2 : Rect S1024x1024 := Rect.unit (s := S1024x1024) ![0, 0] S1024x1024.size inb_S1024x1024_S1024x1024_0_0
abbrev r3 : Rect S1x512x1024 := Rect.unit (s := S1x512x1024) ![0, 0, 0] S1x512x1024.size inb_S1x512x1024_S1x512x1024_0_0_0

/-- The load of the block of `x`. -/
theorem op_ld_a0 {Q : α → sProp 𝕄} (c : Dev nD) (f : Vec F S1x512x1024 .f32) {hl : (Memref.whole cc0_stg0_0 : Memref sig .tc .vmem S1x512x1024 .f32).view.LoadsAt r3.toLoadRect}
    {k : Vec F S1x512x1024 .f32 → Prog (TpuEff nD τ sig (Elt F) Λ₀ .tc) α} :
    whPt c cc0_stg0_0 f ⊢ iprop((whPt c cc0_stg0_0 f -∗ WP c (k f) Q)
      -∗ WP c (.op (.load (Memref.whole cc0_stg0_0 : Memref sig .tc .vmem S1x512x1024 .f32) r3.toLoadRect hl) k) Q) := by
  have h := ld (Q := Q) (hl := hl) (k := k) (q := fullShare) (f := f) (S := Finset.univ) c (m := (Memref.whole cc0_stg0_0 : Memref sig .tc .vmem S1x512x1024 .f32)) (r := r3.toLoadRect)
    (Finset.subset_univ _)
  have he : (Memref.whole cc0_stg0_0 : Memref sig .tc .vmem S1x512x1024 .f32).view.readAt (Elt F) r3.toLoadRect f = f := Memref.readAt_unit_zero (Elt F) cc0_stg0_0 hz3 _ f
  rw [he] at h; exact h
/-- The load of the query weights. -/
theorem op_ld_a1 {Q : α → sProp 𝕄} (c : Dev nD) (f : Vec F S1024x1024 .f32) {hl : (Memref.whole cc0_stg1_0 : Memref sig .tc .vmem S1024x1024 .f32).view.LoadsAt r2.toLoadRect}
    {k : Vec F S1024x1024 .f32 → Prog (TpuEff nD τ sig (Elt F) Λ₀ .tc) α} :
    whPt c cc0_stg1_0 f ⊢ iprop((whPt c cc0_stg1_0 f -∗ WP c (k f) Q)
      -∗ WP c (.op (.load (Memref.whole cc0_stg1_0 : Memref sig .tc .vmem S1024x1024 .f32) r2.toLoadRect hl) k) Q) := by
  have h := ld (Q := Q) (hl := hl) (k := k) (q := fullShare) (f := f) (S := Finset.univ) c (m := (Memref.whole cc0_stg1_0 : Memref sig .tc .vmem S1024x1024 .f32)) (r := r2.toLoadRect)
    (Finset.subset_univ _)
  have he : (Memref.whole cc0_stg1_0 : Memref sig .tc .vmem S1024x1024 .f32).view.readAt (Elt F) r2.toLoadRect f = f := Memref.readAt_unit_zero (Elt F) cc0_stg1_0 hz2 _ f
  rw [he] at h; exact h
/-- The load of the output weights. -/
theorem op_ld_a2 {Q : α → sProp 𝕄} (c : Dev nD) (f : Vec F S1024x1024 .f32) {hl : (Memref.whole cc0_stg2_0 : Memref sig .tc .vmem S1024x1024 .f32).view.LoadsAt r2.toLoadRect}
    {k : Vec F S1024x1024 .f32 → Prog (TpuEff nD τ sig (Elt F) Λ₀ .tc) α} :
    whPt c cc0_stg2_0 f ⊢ iprop((whPt c cc0_stg2_0 f -∗ WP c (k f) Q)
      -∗ WP c (.op (.load (Memref.whole cc0_stg2_0 : Memref sig .tc .vmem S1024x1024 .f32) r2.toLoadRect hl) k) Q) := by
  have h := ld (Q := Q) (hl := hl) (k := k) (q := fullShare) (f := f) (S := Finset.univ) c (m := (Memref.whole cc0_stg2_0 : Memref sig .tc .vmem S1024x1024 .f32)) (r := r2.toLoadRect)
    (Finset.subset_univ _)
  have he : (Memref.whole cc0_stg2_0 : Memref sig .tc .vmem S1024x1024 .f32).view.readAt (Elt F) r2.toLoadRect f = f := Memref.readAt_unit_zero (Elt F) cc0_stg2_0 hz2 _ f
  rw [he] at h; exact h
/-- The load of the key weights. -/
theorem op_ld_a3 {Q : α → sProp 𝕄} (c : Dev nD) (f : Vec F S1024x1024 .f32) {hl : (Memref.whole cc0_stg3_0 : Memref sig .tc .vmem S1024x1024 .f32).view.LoadsAt r2.toLoadRect}
    {k : Vec F S1024x1024 .f32 → Prog (TpuEff nD τ sig (Elt F) Λ₀ .tc) α} :
    whPt c cc0_stg3_0 f ⊢ iprop((whPt c cc0_stg3_0 f -∗ WP c (k f) Q)
      -∗ WP c (.op (.load (Memref.whole cc0_stg3_0 : Memref sig .tc .vmem S1024x1024 .f32) r2.toLoadRect hl) k) Q) := by
  have h := ld (Q := Q) (hl := hl) (k := k) (q := fullShare) (f := f) (S := Finset.univ) c (m := (Memref.whole cc0_stg3_0 : Memref sig .tc .vmem S1024x1024 .f32)) (r := r2.toLoadRect)
    (Finset.subset_univ _)
  have he : (Memref.whole cc0_stg3_0 : Memref sig .tc .vmem S1024x1024 .f32).view.readAt (Elt F) r2.toLoadRect f = f := Memref.readAt_unit_zero (Elt F) cc0_stg3_0 hz2 _ f
  rw [he] at h; exact h
/-- The load of the value weights. -/
theorem op_ld_a4 {Q : α → sProp 𝕄} (c : Dev nD) (f : Vec F S1024x1024 .f32) {hl : (Memref.whole cc0_stg4_0 : Memref sig .tc .vmem S1024x1024 .f32).view.LoadsAt r2.toLoadRect}
    {k : Vec F S1024x1024 .f32 → Prog (TpuEff nD τ sig (Elt F) Λ₀ .tc) α} :
    whPt c cc0_stg4_0 f ⊢ iprop((whPt c cc0_stg4_0 f -∗ WP c (k f) Q)
      -∗ WP c (.op (.load (Memref.whole cc0_stg4_0 : Memref sig .tc .vmem S1024x1024 .f32) r2.toLoadRect hl) k) Q) := by
  have h := ld (Q := Q) (hl := hl) (k := k) (q := fullShare) (f := f) (S := Finset.univ) c (m := (Memref.whole cc0_stg4_0 : Memref sig .tc .vmem S1024x1024 .f32)) (r := r2.toLoadRect)
    (Finset.subset_univ _)
  have he : (Memref.whole cc0_stg4_0 : Memref sig .tc .vmem S1024x1024 .f32).view.readAt (Elt F) r2.toLoadRect f = f := Memref.readAt_unit_zero (Elt F) cc0_stg4_0 hz2 _ f
  rw [he] at h; exact h
/-- The load of the result block. -/
theorem op_ld_out {Q : α → sProp 𝕄} (c : Dev nD) (f : Vec F S1x512x1024 .f32) {hl : (Memref.whole cc0_stg5_0 : Memref sig .tc .vmem S1x512x1024 .f32).view.LoadsAt r3.toLoadRect}
    {k : Vec F S1x512x1024 .f32 → Prog (TpuEff nD τ sig (Elt F) Λ₀ .tc) α} :
    whPt c cc0_stg5_0 f ⊢ iprop((whPt c cc0_stg5_0 f -∗ WP c (k f) Q)
      -∗ WP c (.op (.load (Memref.whole cc0_stg5_0 : Memref sig .tc .vmem S1x512x1024 .f32) r3.toLoadRect hl) k) Q) := by
  have h := ld (Q := Q) (hl := hl) (k := k) (q := fullShare) (f := f) (S := Finset.univ) c (m := (Memref.whole cc0_stg5_0 : Memref sig .tc .vmem S1x512x1024 .f32)) (r := r3.toLoadRect)
    (Finset.subset_univ _)
  have he : (Memref.whole cc0_stg5_0 : Memref sig .tc .vmem S1x512x1024 .f32).view.readAt (Elt F) r3.toLoadRect f = f := Memref.readAt_unit_zero (Elt F) cc0_stg5_0 hz3 _ f
  rw [he] at h; exact h
/-- The store of the result block. -/
theorem op_st_out {Q : α → sProp 𝕄} (c : Dev nD) (f w : Vec F S1x512x1024 .f32) {hx : ((Memref.whole cc0_stg5_0 : Memref sig .tc .vmem S1x512x1024 .f32).access r3).Stores Finset.univ} {hm}
    {k : PUnit → Prog (TpuEff nD τ sig (Elt F) Λ₀ .tc) α} :
    whPt c cc0_stg5_0 f ⊢ iprop((whPt c cc0_stg5_0 w -∗ WP c (k ⟨⟩) Q)
      -∗ WP c (.op (.store (Memref.whole cc0_stg5_0 : Memref sig .tc .vmem S1x512x1024 .f32) r3 w Finset.univ hx hm) k) Q) := by
  have h := str (Q := Q) (hx := hx) (hm := hm) (k := k) (w := w) (f := f) (S := Finset.univ) c (m := (Memref.whole cc0_stg5_0 : Memref sig .tc .vmem S1x512x1024 .f32)) (r := r3)
    (Finset.subset_univ _)
  have he : ((Memref.whole cc0_stg5_0 : Memref sig .tc .vmem S1x512x1024 .f32).access r3 : View sig .tc _ _ _).write (Elt F) f w Finset.univ = w := Memref.write_access_unit_zero_univ (Elt F) cc0_stg5_0 hz3 _ f w
  rw [he] at h; exact h
/-- The load of the narrowed output weights. -/
theorem op_ld_wo {Q : α → sProp 𝕄} (c : Dev nD) (f : Vec F S1024x1024 .bf16) {hl : (Memref.whole cc0_scratch4 : Memref sig .tc .vmem S1024x1024 .bf16).view.LoadsAt r2.toLoadRect}
    {k : Vec F S1024x1024 .bf16 → Prog (TpuEff nD τ sig (Elt F) Λ₀ .tc) α} :
    whPt c cc0_scratch4 f ⊢ iprop((whPt c cc0_scratch4 f -∗ WP c (k f) Q)
      -∗ WP c (.op (.load (Memref.whole cc0_scratch4 : Memref sig .tc .vmem S1024x1024 .bf16) r2.toLoadRect hl) k) Q) := by
  have h := ld (Q := Q) (hl := hl) (k := k) (q := fullShare) (f := f) (S := Finset.univ) c (m := (Memref.whole cc0_scratch4 : Memref sig .tc .vmem S1024x1024 .bf16)) (r := r2.toLoadRect)
    (Finset.subset_univ _)
  have he : (Memref.whole cc0_scratch4 : Memref sig .tc .vmem S1024x1024 .bf16).view.readAt (Elt F) r2.toLoadRect f = f := Memref.readAt_unit_zero (Elt F) cc0_scratch4 hz2 _ f
  rw [he] at h; exact h
/-- The store of the narrowed output weights. -/
theorem op_st_wo {Q : α → sProp 𝕄} (c : Dev nD) (f w : Vec F S1024x1024 .bf16) {hx : ((Memref.whole cc0_scratch4 : Memref sig .tc .vmem S1024x1024 .bf16).access r2).Stores Finset.univ} {hm}
    {k : PUnit → Prog (TpuEff nD τ sig (Elt F) Λ₀ .tc) α} :
    whPt c cc0_scratch4 f ⊢ iprop((whPt c cc0_scratch4 w -∗ WP c (k ⟨⟩) Q)
      -∗ WP c (.op (.store (Memref.whole cc0_scratch4 : Memref sig .tc .vmem S1024x1024 .bf16) r2 w Finset.univ hx hm) k) Q) := by
  have h := str (Q := Q) (hx := hx) (hm := hm) (k := k) (w := w) (f := f) (S := Finset.univ) c (m := (Memref.whole cc0_scratch4 : Memref sig .tc .vmem S1024x1024 .bf16)) (r := r2)
    (Finset.subset_univ _)
  have he : ((Memref.whole cc0_scratch4 : Memref sig .tc .vmem S1024x1024 .bf16).access r2 : View sig .tc _ _ _).write (Elt F) f w Finset.univ = w := Memref.write_access_unit_zero_univ (Elt F) cc0_scratch4 hz2 _ f w
  rw [he] at h; exact h

end Mem
end Cert.Mha
end
-- ==== Proof.Parts.lean ====
/-
# The parts of the body

The rule of each printed part at a symbolic device: what it takes from the protocol and from memory, what it gives back, and
the values it returns.
-/
module

public import proofs.«01_k».proof.Proof.Ops

@[expose] public section

set_option maxRecDepth 8000

noncomputable section

namespace Cert.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Shorthands -/

/-- The token of duty `d` of cell `k` of device `p`. -/
abbrev tk (p : Dev nD) (k : Fin 19) (d : Fin 3) : sProp 𝕄 := dutyTok ER (kcell (p, k)) 0 d
/-- Device `c` at the start of its own cell `k`. -/
abbrev pos (c : Dev nD) (k : Fin 19) : sProp 𝕄 := atPos ER (kcell (c, k)) 0 ∅ 0
/-- `n` credits of device `c`'s cell `k`. -/
abbrev cr (c : Dev nD) (k : Fin 19) (n : ℕ) : sProp 𝕄 := cred (tallyAt (kcell (c, k)) () n)
/-- Device `c`'s semaphore `k`, back at zero. -/
abbrev sv (c : Dev nD) (k : Fin 19) : sProp 𝕄 := semVal (kcell (c, k)) 0

theorem dev1 (c : Dev nD) : (⟨k0_dev1 c, k0_dev1_lt c⟩ : Dev nD) = pk c 1 := Fin.ext (k0_dev1_eq c)
theorem dev2 (c : Dev nD) : (⟨k0_dev2 c, k0_dev2_lt c⟩ : Dev nD) = pk c 2 := Fin.ext (k0_dev2_eq c)
theorem dev3 (c : Dev nD) : (⟨k0_dev3 c, k0_dev3_lt c⟩ : Dev nD) = pk c 3 := Fin.ext (k0_dev3_eq c)
theorem dev4 (c : Dev nD) : (⟨k0_dev4 c, k0_dev4_lt c⟩ : Dev nD) = pk c 1 := Fin.ext (k0_dev4_eq c)
theorem dev5 (c : Dev nD) : (⟨k0_dev5 c, k0_dev5_lt c⟩ : Dev nD) = pk c 3 := Fin.ext (k0_dev5_eq c)
theorem dev6 (c : Dev nD) : (⟨k0_dev6 c, k0_dev6_lt c⟩ : Dev nD) = pk c 2 := Fin.ext (k0_dev6_eq c)
theorem dev7 (c : Dev nD) : (⟨k0_dev7 c, k0_dev7_lt c⟩ : Dev nD) = pk c 1 := Fin.ext (k0_dev7_eq c)
theorem dev8 (c : Dev nD) : (⟨k0_dev8 c, k0_dev8_lt c⟩ : Dev nD) = pk c 1 := Fin.ext (k0_dev8_eq c)
theorem dev9 (c : Dev nD) : (⟨k0_dev9 c, k0_dev9_lt c⟩ : Dev nD) = pk c 3 := Fin.ext (k0_dev9_eq c)
theorem dev10 (c : Dev nD) : (⟨k0_dev10 c, k0_dev10_lt c⟩ : Dev nD) = pk c 3 := Fin.ext (k0_dev10_eq c)
theorem dev11 (c : Dev nD) : (⟨k0_dev11 c, k0_dev11_lt c⟩ : Dev nD) = pk c 2 := Fin.ext (k0_dev11_eq c)
theorem dev12 (c : Dev nD) : (⟨k0_dev12 c, k0_dev12_lt c⟩ : Dev nD) = pk c 2 := Fin.ext (k0_dev12_eq c)
theorem pk_13 (c : Dev nD) : pk (pk c 1) 3 = c := by revert c; decide
theorem pk_31 (c : Dev nD) : pk (pk c 3) 1 = c := by revert c; decide
theorem pk_22 (c : Dev nD) : pk (pk c 2) 2 = c := by revert c; decide
theorem off4_1 (c : Dev nD) : k0_off4 c 1#32 = ![(pk c 1).val, 0, 0] := k0_off4_eq c 0
theorem off4_2 (c : Dev nD) : k0_off4 c 2#32 = ![(pk c 2).val, 0, 0] := k0_off4_eq c 1
theorem off4_3 (c : Dev nD) : k0_off4 c 3#32 = ![(pk c 3).val, 0, 0] := k0_off4_eq c 2

/-- The words the parts hand on: positions on the mesh that nothing below reads. -/
abbrev wA (c : Dev nD) : BitVec 32 := Scalar.remsi (Scalar.divsi (Dev.word c) 1#32) 4#32
abbrev wB (c : Dev nD) : BitVec 32 := Scalar.remsi (Scalar.addi (wA c) 2#32) 4#32
abbrev wC (c : Dev nD) : BitVec 32 := Scalar.remsi (Scalar.addi (wA c) 3#32) 4#32
abbrev wD (v : BitVec 32) : BitVec 32 := Scalar.remsi (Scalar.addi v 1#32) 4#32
abbrev wE (v : BitVec 32) : BitVec 32 := Scalar.remsi (Scalar.addi v 3#32) 4#32
abbrev wG (v : BitVec 32) : BitVec 32 := Scalar.remsi (Scalar.addi v 2#32) 4#32

variable (I : Dev nD → Ins F) (K : Dev nD × Fin 19 → ℕ)

/-- The load of the query columns. -/
theorem op_ld_wq {α : Type} {Q : α → sProp 𝕄} (c : Dev nD) {off : Fin 2 → ℕ} (ho : off = ![0, 1024 * 0])
    {inb : ∀ a, off a + S1024x1024.size a ≤ S1024x3072.size a} {hl : W16.view.LoadsAt (wRect off inb).toLoadRect}
    {k : Vec F S1024x1024 .bf16 → Prog (TpuEff nD τ sig (Elt F) Λ₀ .tc) α} :
    w16Pt c (w16S 0) (w16B I c) ⊢ iprop((w16Pt c (w16S 0) (w16B I c) -∗ WP c (k (aQ I c)) Q)
      -∗ WP c (.op (.load W16 (wRect off inb).toLoadRect hl) k) Q) :=
  op_ld_w I c 0 (by decide) ho
/-- The load of the key columns. -/
theorem op_ld_wk {α : Type} {Q : α → sProp 𝕄} (c : Dev nD) {off : Fin 2 → ℕ} (ho : off = ![0, 1024 * 1])
    {inb : ∀ a, off a + S1024x1024.size a ≤ S1024x3072.size a} {hl : W16.view.LoadsAt (wRect off inb).toLoadRect}
    {k : Vec F S1024x1024 .bf16 → Prog (TpuEff nD τ sig (Elt F) Λ₀ .tc) α} :
    w16Pt c (w16S 1) (w16B I c) ⊢ iprop((w16Pt c (w16S 1) (w16B I c) -∗ WP c (k (aK I c)) Q)
      -∗ WP c (.op (.load W16 (wRect off inb).toLoadRect hl) k) Q) :=
  op_ld_w I c 1 (by decide) ho
/-- The load of the value columns. -/
theorem op_ld_wv {α : Type} {Q : α → sProp 𝕄} (c : Dev nD) {off : Fin 2 → ℕ} (ho : off = ![0, 1024 * 2])
    {inb : ∀ a, off a + S1024x1024.size a ≤ S1024x3072.size a} {hl : W16.view.LoadsAt (wRect off inb).toLoadRect}
    {k : Vec F S1024x1024 .bf16 → Prog (TpuEff nD τ sig (Elt F) Λ₀ .tc) α} :
    w16Pt c (w16S 2) (w16B I c) ⊢ iprop((w16Pt c (w16S 2) (w16B I c) -∗ WP c (k (aV I c)) Q)
      -∗ WP c (.op (.load W16 (wRect off inb).toLoadRect hl) k) Q) :=
  op_ld_w I c 2 (by decide) ho

/-- The two halves of an incoming slot make the slot. -/
theorem pin_join (c : Dev nD) (j : Fin 3) (a : ℕ) (hja : j.val = a) :
    iprop(pinPt c (hS a 0) (pinB I c) ∗ pinPt c (hS a 1) (pinB I c)) ⊢ (pinPt c (slotS a) (pinB I c) : sProp 𝕄) := by
  subst hja; rw [← hS_union j]; exact (pointsTo_union (by exact hS_disjoint j.val)).2

/-! ## The parts -/

/-- The barrier, then the device's own batch entry into its slot. -/
theorem part1_spec {Q : _ → sProp 𝕄} (c : Dev nD) :
    iprop(recs I K ∗ levAts L lv ∗ ow c 12
      ∗ tk (pk c 1) 0 0
      ∗ tk (pk c 2) 0 1
      ∗ tk (pk c 3) 0 2
      ∗ barPay (pk c 1) 0
      ∗ barPay (pk c 2) 1
      ∗ barPay (pk c 3) 2
      ∗ pos c 0
      ∗ cr c 0 3
      ∗ whPt c cc0_stg0_0 (I c).x
      ∗ (∃ f, xgPt c (xgS c.val) fullShare f))
      ⊢ iprop(((ow c 9
        ∗ sv c 0
        ∗ barPay c 0
        ∗ barPay c 1
        ∗ barPay c 2
        ∗ whPt c cc0_stg0_0 (I c).x
        ∗ xgPt c (xgS c.val) fullShare (xgB I)) -∗ Q ⟨c, wA c, wB c, wC c⟩)
        -∗ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q) := by
  simp only [k0_part1_eq_skeleton]
  unfold k0_part1_skel
  simp only [semSignalWord, semWaitWord, Prog.lift, Prog.bind_op, Prog.bind_ret, Prog.pure_eq_ret, wp_deviceId]
  iintro ⟨#HR, #HL, HO, T0, T1, T2, B0, B1, B2, PA, C, X0, XO⟩ HQ
  iapply (op_sig I K c _ (pk c 1) (dev1 c) 0 11 rfl rfl) $$ [HO T0 B0]
  · isplitr; · iexact HR
    isplitl [HO]; · iexact HO
    isplitl [T0]; · iexact T0
    iexact B0
  iintro HO
  iapply (op_sig I K c _ (pk c 2) (dev2 c) 1 10 rfl rfl) $$ [HO T1 B1]
  · isplitr; · iexact HR
    isplitl [HO]; · iexact HO
    isplitl [T1]; · iexact T1
    iexact B1
  iintro HO
  iapply (op_sig I K c _ (pk c 3) (dev3 c) 2 9 rfl rfl) $$ [HO T2 B2]
  · isplitr; · iexact HR
    isplitl [HO]; · iexact HO
    isplitl [T2]; · iexact T2
    iexact B2
  iintro HO
  iapply (op_bar I K c) $$ [HO PA C]
  · isplitr; · iexact HR
    isplitr; · iexact HL
    isplitl [HO]; · iexact HO
    isplitl [PA]; · iexact PA
    iexact C
  iintro ⟨HO, S, D0, D1, D2⟩
  iapply (op_ld_a0 c (I c).x) $$ X0
  iintro X0
  icases XO with ⟨%fXO, XO⟩
  iapply (op_ld_x_any c c.val fullShare fXO (k0_off1_eq c)) $$ XO
  iintro XO
  iapply (op_st_x I c c fXO (k0_off1_eq c) rfl) $$ XO
  iintro XO
  iapply (wp_done c _)
  iapply HQ
  isplitl [HO]; · iexact HO
  isplitl [S]; · iexact S
  isplitl [D0]; · iexact D0
  isplitl [D1]; · iexact D1
  isplitl [D2]; · iexact D2
  isplitl [X0]; · iexact X0
  iexact XO

/-- The two neighbour sends of `x`, and the three projections narrowed. -/
theorem part2_spec {Q : _ → sProp 𝕄} (c : Dev nD) (v8 : BitVec 32) :
    iprop(recs I K ∗ levAts L lv ∗ ow c 9
      ∗ xgPt c (xgS c.val) (qs 0) (xgB I)
      ∗ xgPt c (xgS c.val) (qs 2) (xgB I)
      ∗ (∃ f, xgPt (pk c 1) (xgS c.val) fullShare f)
      ∗ (∃ f, xgPt (pk c 3) (xgS c.val) fullShare f)
      ∗ tk (c) (xsem 0) 0
      ∗ tk (pk c 1) (rsem 2) 0
      ∗ tk (c) (xsem 2) 0
      ∗ tk (pk c 3) (rsem 0) 0
      ∗ whPt c cc0_stg1_0 (I c).wq
      ∗ whPt c cc0_stg3_0 (I c).wk
      ∗ whPt c cc0_stg4_0 (I c).wv
      ∗ (∃ f, w16Pt c (w16S 0) f)
      ∗ (∃ f, w16Pt c (w16S 1) f)
      ∗ (∃ f, w16Pt c (w16S 2) f))
      ⊢ iprop(((ow c 7
        ∗ cr c (xsem 0) NX
        ∗ cr c (xsem 2) NX
        ∗ whPt c cc0_stg1_0 (I c).wq
        ∗ whPt c cc0_stg3_0 (I c).wk
        ∗ whPt c cc0_stg4_0 (I c).wv
        ∗ w16Pt c (w16S 0) (w16B I c)
        ∗ w16Pt c (w16S 1) (w16B I c)
        ∗ w16Pt c (w16S 2) (w16B I c)) -∗ Q ⟨⟩)
        -∗ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v8) Q) := by
  simp only [k0_part2_eq_skeleton]
  unfold k0_part2_skel
  simp only [semSignalWord, semWaitWord, Prog.lift, Prog.bind_op, Prog.bind_ret, Prog.pure_eq_ret, wp_deviceId]
  iintro ⟨#HR, #HL, HO, Q0, Q2, E1, E3, T0, T1, T2, T3, X1, X3, X4, W0, W1, W2⟩ HQ
  iapply (op_send_x I K c _ (pk c 1) (dev4 c) 0 2 (pk_13 c) 8 rfl rfl (k0_off2_eq c) _ _ rfl rfl) $$ [Q0 E1 HO T0 T1]
  · isplitr; · iexact HR
    isplitl [Q0]; · iexact Q0
    isplitl [E1]; · iexact E1
    isplitl [HO]; · iexact HO
    isplitl [T0]; · iexact T0
    iexact T1
  iintro ⟨CX0, HO⟩
  iapply (op_send_x I K c _ (pk c 3) (dev5 c) 2 0 (pk_31 c) 7 rfl rfl (k0_off2_eq c) _ _ rfl rfl) $$ [Q2 E3 HO T2 T3]
  · isplitr; · iexact HR
    isplitl [Q2]; · iexact Q2
    isplitl [E3]; · iexact E3
    isplitl [HO]; · iexact HO
    isplitl [T2]; · iexact T2
    iexact T3
  iintro ⟨CX2, HO⟩
  iapply (op_ld_a1 c _) $$ X1
  iintro X1
  icases W0 with ⟨%fW0, W0⟩
  iapply (op_ld_w_any c 0 fW0 rfl) $$ W0
  iintro W0
  iapply (op_st_w I c 0 (by decide) fW0 rfl rfl) $$ W0
  iintro W0
  iapply (op_ld_a3 c _) $$ X3
  iintro X3
  icases W1 with ⟨%fW1, W1⟩
  iapply (op_ld_w_any c 1 fW1 rfl) $$ W1
  iintro W1
  iapply (op_st_w I c 1 (by decide) fW1 rfl rfl) $$ W1
  iintro W1
  iapply (op_ld_a4 c _) $$ X4
  iintro X4
  icases W2 with ⟨%fW2, W2⟩
  iapply (op_ld_w_any c 2 fW2 rfl) $$ W2
  iintro W2
  iapply (op_st_w I c 2 (by decide) fW2 rfl rfl) $$ W2
  iintro W2
  iapply (wp_done c _)
  iapply HQ
  isplitl [HO]; · iexact HO
  isplitl [CX0]; · iexact CX0
  isplitl [CX2]; · iexact CX2
  isplitl [X1]; · iexact X1
  isplitl [X3]; · iexact X3
  isplitl [X4]; · iexact X4
  isplitl [W0]; · iexact W0
  isplitl [W1]; · iexact W1
  iexact W2

/-- The output weights narrowed, and the loads for the device's own batch entry. -/
theorem part3_spec {Q : _ → sProp 𝕄} (c : Dev nD) (v2 : BitVec 32) :
    iprop(recs I K ∗ levAts L lv ∗ whPt c cc0_stg2_0 (I c).wo
      ∗ (∃ f, whPt c cc0_scratch4 f)
      ∗ xgPt c (xgS c.val) (qs 1) (xgB I)
      ∗ w16Pt c (w16S 0) (w16B I c)
      ∗ w16Pt c (w16S 1) (w16B I c)
      ∗ w16Pt c (w16S 2) (w16B I c))
      ⊢ iprop(((whPt c cc0_stg2_0 (I c).wo
        ∗ whPt c cc0_scratch4 (aO I c)
        ∗ xgPt c (xgS c.val) (qs 1) (xgB I)
        ∗ w16Pt c (w16S 0) (w16B I c)
        ∗ w16Pt c (w16S 1) (w16B I c)
        ∗ w16Pt c (w16S 2) (w16B I c)) -∗ Q ⟨k0_pay7 (xs I c) (aQ I c), k0_pay8 (xs I c) (aK I c), k0_pay9 (xs I c) (aV I c), k0_pay10 (xs I c) (aQ I c) (aK I c) (aV I c), k0_pay11 (xs I c) (aV I c), k0_pay12 (xs I c) (aQ I c) (aK I c)⟩)
        -∗ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Q) := by
  simp only [k0_part3_eq_skeleton]
  unfold k0_part3_skel
  simp only [semSignalWord, semWaitWord, Prog.lift, Prog.bind_op, Prog.bind_ret, Prog.pure_eq_ret, wp_deviceId]
  iintro ⟨#HR, #HL, X2, WO, Q1, W0, W1, W2⟩ HQ
  iapply (op_ld_a2 c _) $$ X2
  iintro X2
  icases WO with ⟨%fWO, WO⟩
  iapply (op_ld_wo c fWO) $$ WO
  iintro WO
  iapply (op_st_wo c fWO _) $$ WO
  iintro WO
  iapply (op_ld_x I c c (qs 1) (k0_off1_eq c)) $$ Q1
  iintro Q1
  iapply (op_ld_wq I c rfl) $$ W0
  iintro W0
  iapply (op_ld_wk I c rfl) $$ W1
  iintro W1
  iapply (op_ld_wv I c rfl) $$ W2
  iintro W2
  iapply (wp_done c _)
  iapply HQ
  isplitl [X2]; · iexact X2
  isplitl [WO]; · iexact WO
  isplitl [Q1]; · iexact Q1
  isplitl [W0]; · iexact W0
  isplitl [W1]; · iexact W1
  iexact W2

/-- The device's own partial into the result block; the two neighbour sends have landed. -/
theorem part6_spec {Q : _ → sProp 𝕄} (c : Dev nD) (v6 : BitVec 32) (v90 v106 v122 v138 v154 v170 v186 v189 : FVec F S512x128 .bf16) (v191 : FVec F S512x512 .f32) :
    iprop(recs I K ∗ levAts L lv ∗ ow c 7
      ∗ whPt c cc0_scratch4 (aO I c)
      ∗ (∃ f, whPt c cc0_stg5_0 f)
      ∗ pos c (xsem 0)
      ∗ cr c (xsem 0) NX
      ∗ pos c (xsem 2)
      ∗ cr c (xsem 2) NX)
      ⊢ iprop(((ow c 7
        ∗ whPt c cc0_scratch4 (aO I c)
        ∗ whPt c cc0_stg5_0 (k0_pay23 v90 v106 v122 v138 v154 v170 v186 v189 v191 (aO I c))
        ∗ sv c (xsem 0)
        ∗ sv c (xsem 2)
        ∗ xgPt c (xgS c.val) (qs 0) (xgB I)
        ∗ xgPt c (xgS c.val) (qs 2) (xgB I)) -∗ Q ⟨⟩)
        -∗ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v6 v90 v106 v122 v138 v154 v170 v186 v189 v191) Q) := by
  simp only [k0_part6_eq_skeleton]
  unfold k0_part6_skel
  simp only [semSignalWord, semWaitWord, Prog.lift, Prog.bind_op, Prog.bind_ret, Prog.pure_eq_ret, wp_deviceId]
  iintro ⟨#HR, #HL, HO, WO, HU, PX0, CX0, PX2, CX2⟩ HQ
  iapply (op_ld_wo c _) $$ WO
  iintro WO
  icases HU with ⟨%fHU, HU⟩
  iapply (op_ld_out c fHU) $$ HU
  iintro HU
  iapply (op_st_out c fHU _) $$ HU
  iintro HU
  iapply (op_wait_xs I K c 0 7 rfl NX_eq.symm) $$ [HO PX0 CX0]
  · isplitr; · iexact HR
    isplitr; · iexact HL
    isplitl [HO]; · iexact HO
    isplitl [PX0]; · iexact PX0
    iexact CX0
  iintro ⟨HO, SX0, Q0⟩
  iapply (op_wait_xs I K c 2 7 rfl NX_eq.symm) $$ [HO PX2 CX2]
  · isplitr; · iexact HR
    isplitr; · iexact HL
    isplitl [HO]; · iexact HO
    isplitl [PX2]; · iexact PX2
    iexact CX2
  iintro ⟨HO, SX2, Q2⟩
  iapply (wp_done c _)
  iapply HQ
  isplitl [HO]; · iexact HO
  isplitl [WO]; · iexact WO
  isplitl [HU]; · iexact HU
  isplitl [SX0]; · iexact SX0
  isplitl [SX2]; · iexact SX2
  isplitl [Q0]; · iexact Q0
  iexact Q2

/-- The third send of `x`; the batch entry one place on arrives. -/
theorem part7_spec {Q : _ → sProp 𝕄} (c : Dev nD) (v2 : BitVec 32) :
    iprop(recs I K ∗ levAts L lv ∗ ow c 7
      ∗ xgPt c (xgS c.val) (qs 1) (xgB I)
      ∗ (∃ f, xgPt (pk c 2) (xgS c.val) fullShare f)
      ∗ tk (c) (xsem 1) 0
      ∗ tk (pk c 2) (rsem 1) 0
      ∗ pos c (rsem 0)
      ∗ cr c (rsem 0) NX
      ∗ w16Pt c (w16S 0) (w16B I c)
      ∗ w16Pt c (w16S 1) (w16B I c)
      ∗ w16Pt c (w16S 2) (w16B I c))
      ⊢ iprop(((ow c 6
        ∗ cr c (xsem 1) NX
        ∗ sv c (rsem 0)
        ∗ xgPt c (xgS (pk c 1).val) fullShare (xgB I)
        ∗ w16Pt c (w16S 0) (w16B I c)
        ∗ w16Pt c (w16S 1) (w16B I c)
        ∗ w16Pt c (w16S 2) (w16B I c)) -∗ Q ⟨wD v2, k0_pay25 (xs I (pk c 1)) (aQ I c), k0_pay26 (xs I (pk c 1)) (aK I c), k0_pay27 (xs I (pk c 1)) (aV I c), k0_pay28 (xs I (pk c 1)) (aV I c), k0_pay29 (xs I (pk c 1)) (aQ I c) (aK I c)⟩)
        -∗ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Q) := by
  simp only [k0_part7_eq_skeleton]
  unfold k0_part7_skel
  simp only [semSignalWord, semWaitWord, Prog.lift, Prog.bind_op, Prog.bind_ret, Prog.pure_eq_ret, wp_deviceId]
  iintro ⟨#HR, #HL, HO, Q1, E2, T0, T1, PR0, CR0, W0, W1, W2⟩ HQ
  iapply (op_send_x I K c _ (pk c 2) (dev6 c) 1 1 (pk_22 c) 6 rfl rfl (k0_off2_eq c) _ _ rfl rfl) $$ [Q1 E2 HO T0 T1]
  · isplitr; · iexact HR
    isplitl [Q1]; · iexact Q1
    isplitl [E2]; · iexact E2
    isplitl [HO]; · iexact HO
    isplitl [T0]; · iexact T0
    iexact T1
  iintro ⟨CX1, HO⟩
  iapply (op_wait_xr I K c 0 (pk c 1) rfl 6 (by decide) rfl NX_eq.symm) $$ [HO PR0 CR0]
  · isplitr; · iexact HR
    isplitr; · iexact HL
    isplitl [HO]; · iexact HO
    isplitl [PR0]; · iexact PR0
    iexact CR0
  iintro ⟨HO, SR0, Y0⟩
  iapply (op_ld_x I c (pk c 1) fullShare (off4_1 c)) $$ Y0
  iintro Y0
  iapply (op_ld_wq I c rfl) $$ W0
  iintro W0
  iapply (op_ld_wk I c rfl) $$ W1
  iintro W1
  iapply (op_ld_wv I c rfl) $$ W2
  iintro W2
  iapply (wp_done c _)
  iapply HQ
  isplitl [HO]; · iexact HO
  isplitl [CX1]; · iexact CX1
  isplitl [SR0]; · iexact SR0
  isplitl [Y0]; · iexact Y0
  isplitl [W0]; · iexact W0
  isplitl [W1]; · iexact W1
  iexact W2

/-- The upper half of the partial one place on. -/
theorem part10_spec {Q : _ → sProp 𝕄} (c : Dev nD) (v225 : BitVec 32) (v237 v240 v243 : FVec F S512x1024 .bf16) (v259 v275 v291 v307 v323 v339 v342 : FVec F S512x128 .bf16) (v348 : FVec F S512x512 .bf16)
    (hw0 : k0_pay41 v237 v240 v243 v259 v275 v291 v307 v323 v339 v342 v348 (aO I c) = half I c 0 0) :
    iprop(recs I K ∗ levAts L lv ∗ whPt c cc0_scratch4 (aO I c)
      ∗ (∃ f, poutPt c (hS 0 0) f))
      ⊢ iprop(((whPt c cc0_scratch4 (aO I c)
        ∗ poutPt c (hS 0 0) (poutB I c)) -∗ Q (k0_pay40 v237 v240 v243 v259 v275 v291 v307 v323 v339 v342 v348))
        -∗ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v225 v237 v240 v243 v259 v275 v291 v307 v323 v339 v342 v348) Q) := by
  simp only [k0_part10_eq_skeleton]
  unfold k0_part10_skel
  simp only [semSignalWord, semWaitWord, Prog.lift, Prog.bind_op, Prog.bind_ret, Prog.pure_eq_ret, wp_deviceId]
  iintro ⟨#HR, #HL, WO, O0⟩ HQ
  iapply (op_ld_wo c _) $$ WO
  iintro WO
  icases O0 with ⟨%fO0, O0⟩
  iapply (op_ld_pout_any c 0 0 0 0 rfl rfl fO0 rfl) $$ O0
  iintro O0
  iapply (op_st_pout I c 0 0 0 0 rfl rfl fO0 rfl hw0) $$ O0
  iintro O0
  iapply (wp_done c _)
  iapply HQ
  isplitl [WO]; · iexact WO
  iexact O0

/-- The partial one place on is sent in two halves; the batch entry three places on arrives. -/
theorem part11_spec {Q : _ → sProp 𝕄} (c : Dev nD) (v2 v225 : BitVec 32) (v372 : FVec F S512x1024 .bf16)
    (hw1 : k0_pay42 v372 (aO I c) = half I c 0 1) :
    iprop(recs I K ∗ levAts L lv ∗ ow c 6
      ∗ poutPt c (hS 0 0) (poutB I c)
      ∗ (∃ f, poutPt c (hS 0 1) f)
      ∗ (∃ f, pinPt (pk c 1) (hS 2 0) f)
      ∗ (∃ f, pinPt (pk c 1) (hS 2 1) f)
      ∗ tk (c) (psem 0) 0
      ∗ tk (pk c 1) (qsem 4) 0
      ∗ tk (c) (psem 1) 0
      ∗ tk (pk c 1) (qsem 5) 0
      ∗ whPt c cc0_scratch4 (aO I c)
      ∗ pos c (rsem 2)
      ∗ cr c (rsem 2) NX)
      ⊢ iprop(((ow c 4
        ∗ cr c (psem 0) NP
        ∗ cr c (psem 1) NP
        ∗ whPt c cc0_scratch4 (aO I c)
        ∗ sv c (rsem 2)
        ∗ xgPt c (xgS (pk c 3).val) fullShare (xgB I)) -∗ Q (wE v2))
        -∗ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v225 v372) Q) := by
  simp only [k0_part11_eq_skeleton]
  unfold k0_part11_skel
  simp only [semSignalWord, semWaitWord, Prog.lift, Prog.bind_op, Prog.bind_ret, Prog.pure_eq_ret, wp_deviceId]
  iintro ⟨#HR, #HL, HO, O0, O1, F4, F5, T0, U4, T1, U5, WO, PR2, CR2⟩ HQ
  iapply (op_send_p I K c _ (pk c 1) (dev7 c) 0 4 rfl (by decide) 0 0 2 0 rfl rfl rfl rfl 5 rfl rfl rfl rfl _ _ rfl rfl) $$ [O0 F4 HO T0 U4]
  · isplitr; · iexact HR
    isplitl [O0]; · iexact O0
    isplitl [F4]; · iexact F4
    isplitl [HO]; · iexact HO
    isplitl [T0]; · iexact T0
    iexact U4
  iintro ⟨CP0, HO⟩
  iapply (op_ld_wo c _) $$ WO
  iintro WO
  icases O1 with ⟨%fO1, O1⟩
  iapply (op_ld_pout_any c 0 1 0 1 rfl rfl fO1 rfl) $$ O1
  iintro O1
  iapply (op_st_pout I c 0 1 0 1 rfl rfl fO1 rfl hw1) $$ O1
  iintro O1
  iapply (op_send_p I K c _ (pk c 1) (dev8 c) 1 5 rfl (by decide) 0 1 2 1 rfl rfl rfl rfl 4 rfl rfl rfl rfl _ _ rfl rfl) $$ [O1 F5 HO T1 U5]
  · isplitr; · iexact HR
    isplitl [O1]; · iexact O1
    isplitl [F5]; · iexact F5
    isplitl [HO]; · iexact HO
    isplitl [T1]; · iexact T1
    iexact U5
  iintro ⟨CP1, HO⟩
  iapply (op_wait_xr I K c 2 (pk c 3) rfl 4 (by decide) rfl NX_eq.symm) $$ [HO PR2 CR2]
  · isplitr; · iexact HR
    isplitr; · iexact HL
    isplitl [HO]; · iexact HO
    isplitl [PR2]; · iexact PR2
    iexact CR2
  iintro ⟨HO, SR2, Y2⟩
  iapply (wp_done c _)
  iapply HQ
  isplitl [HO]; · iexact HO
  isplitl [CP0]; · iexact CP0
  isplitl [CP1]; · iexact CP1
  isplitl [WO]; · iexact WO
  isplitl [SR2]; · iexact SR2
  iexact Y2

/-- The loads for the batch entry three places on. -/
theorem part12_spec {Q : _ → sProp 𝕄} (c : Dev nD) :
    iprop(recs I K ∗ levAts L lv ∗ xgPt c (xgS (pk c 3).val) fullShare (xgB I)
      ∗ w16Pt c (w16S 0) (w16B I c)
      ∗ w16Pt c (w16S 1) (w16B I c)
      ∗ w16Pt c (w16S 2) (w16B I c))
      ⊢ iprop(((xgPt c (xgS (pk c 3).val) fullShare (xgB I)
        ∗ w16Pt c (w16S 0) (w16B I c)
        ∗ w16Pt c (w16S 1) (w16B I c)
        ∗ w16Pt c (w16S 2) (w16B I c)) -∗ Q ⟨k0_pay44 (xs I (pk c 3)) (aQ I c), k0_pay45 (xs I (pk c 3)) (aK I c), k0_pay46 (xs I (pk c 3)) (aV I c), k0_pay47 (xs I (pk c 3)) (aQ I c) (aK I c) (aV I c), k0_pay49 (xs I (pk c 3)) (aQ I c) (aK I c) (aV I c), k0_pay50 (xs I (pk c 3)) (aQ I c) (aK I c)⟩)
        -∗ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c) Q) := by
  simp only [k0_part12_eq_skeleton]
  unfold k0_part12_skel
  simp only [semSignalWord, semWaitWord, Prog.lift, Prog.bind_op, Prog.bind_ret, Prog.pure_eq_ret, wp_deviceId]
  iintro ⟨#HR, #HL, Y2, W0, W1, W2⟩ HQ
  iapply (op_ld_x I c (pk c 3) fullShare (off4_3 c)) $$ Y2
  iintro Y2
  iapply (op_ld_wq I c rfl) $$ W0
  iintro W0
  iapply (op_ld_wk I c rfl) $$ W1
  iintro W1
  iapply (op_ld_wv I c rfl) $$ W2
  iintro W2
  iapply (wp_done c _)
  iapply HQ
  isplitl [Y2]; · iexact Y2
  isplitl [W0]; · iexact W0
  isplitl [W1]; · iexact W1
  iexact W2

/-- The partial three places on: its upper half is sent, its lower half written. -/
theorem part15_spec {Q : _ → sProp 𝕄} (c : Dev nD) (v408 : BitVec 32) (v442 v458 v474 v490 v506 v522 v538 : FVec F S512x128 .bf16) (v551 v552 : FVec F S512x128 .f32)
    (hw0 : k0_pay64 v442 v458 v474 v490 v506 v522 v538 v551 v552 (aO I c) = half I c 2 0) (hw1 : k0_pay65 v442 v458 v474 v490 v506 v522 v538 v551 v552 (aO I c) = half I c 2 1) :
    iprop(recs I K ∗ levAts L lv ∗ ow c 4
      ∗ whPt c cc0_scratch4 (aO I c)
      ∗ (∃ f, poutPt c (hS 2 0) f)
      ∗ (∃ f, poutPt c (hS 2 1) f)
      ∗ (∃ f, pinPt (pk c 3) (hS 0 0) f)
      ∗ tk (c) (psem 4) 0
      ∗ tk (pk c 3) (qsem 0) 0)
      ⊢ iprop(((ow c 3
        ∗ whPt c cc0_scratch4 (aO I c)
        ∗ poutPt c (hS 2 1) (poutB I c)
        ∗ cr c (psem 4) NP) -∗ Q ⟨⟩)
        -∗ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v408 v442 v458 v474 v490 v506 v522 v538 v551 v552) Q) := by
  simp only [k0_part15_eq_skeleton]
  unfold k0_part15_skel
  simp only [semSignalWord, semWaitWord, Prog.lift, Prog.bind_op, Prog.bind_ret, Prog.pure_eq_ret, wp_deviceId]
  iintro ⟨#HR, #HL, HO, WO, O4, O5, F0, T4, U0⟩ HQ
  iapply (op_ld_wo c _) $$ WO
  iintro WO
  icases O4 with ⟨%fO4, O4⟩
  iapply (op_ld_pout_any c 2 0 2 0 rfl rfl fO4 rfl) $$ O4
  iintro O4
  iapply (op_st_pout I c 2 0 2 0 rfl rfl fO4 rfl hw0) $$ O4
  iintro O4
  iapply (op_send_p I K c _ (pk c 3) (dev9 c) 4 0 rfl (by decide) 2 0 0 0 rfl rfl rfl rfl 3 rfl rfl rfl rfl _ _ rfl rfl) $$ [O4 F0 HO T4 U0]
  · isplitr; · iexact HR
    isplitl [O4]; · iexact O4
    isplitl [F0]; · iexact F0
    isplitl [HO]; · iexact HO
    isplitl [T4]; · iexact T4
    iexact U0
  iintro ⟨CP4, HO⟩
  iapply (op_ld_wo c _) $$ WO
  iintro WO
  icases O5 with ⟨%fO5, O5⟩
  iapply (op_ld_pout_any c 2 1 2 1 rfl rfl fO5 rfl) $$ O5
  iintro O5
  iapply (op_st_pout I c 2 1 2 1 rfl rfl fO5 rfl hw1) $$ O5
  iintro O5
  iapply (wp_done c _)
  iapply HQ
  isplitl [HO]; · iexact HO
  isplitl [WO]; · iexact WO
  isplitl [O5]; · iexact O5
  iexact CP4

/-- The lower half three places on is sent; the batch entry two places on arrives. -/
theorem part16_spec {Q : _ → sProp 𝕄} (c : Dev nD) (v2 : BitVec 32) :
    iprop(recs I K ∗ levAts L lv ∗ ow c 3
      ∗ poutPt c (hS 2 1) (poutB I c)
      ∗ (∃ f, pinPt (pk c 3) (hS 0 1) f)
      ∗ tk (c) (psem 5) 0
      ∗ tk (pk c 3) (qsem 1) 0
      ∗ pos c (rsem 1)
      ∗ cr c (rsem 1) NX
      ∗ w16Pt c (w16S 0) (w16B I c)
      ∗ w16Pt c (w16S 1) (w16B I c)
      ∗ w16Pt c (w16S 2) (w16B I c))
      ⊢ iprop(((ow c 2
        ∗ cr c (psem 5) NP
        ∗ sv c (rsem 1)
        ∗ xgPt c (xgS (pk c 2).val) fullShare (xgB I)
        ∗ w16Pt c (w16S 0) (w16B I c)
        ∗ w16Pt c (w16S 1) (w16B I c)
        ∗ w16Pt c (w16S 2) (w16B I c)) -∗ Q ⟨wG v2, k0_pay67 (xs I (pk c 2)) (aQ I c), k0_pay68 (xs I (pk c 2)) (aK I c), k0_pay69 (xs I (pk c 2)) (aV I c), k0_pay70 (xs I (pk c 2)) (aQ I c), k0_pay71 (xs I (pk c 2)) (aV I c), k0_pay72 (xs I (pk c 2)) (aK I c), zacc⟩)
        -∗ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Q) := by
  simp only [k0_part16_eq_skeleton]
  unfold k0_part16_skel
  simp only [semSignalWord, semWaitWord, Prog.lift, Prog.bind_op, Prog.bind_ret, Prog.pure_eq_ret, wp_deviceId]
  iintro ⟨#HR, #HL, HO, O5, F1, T5, U1, PR1, CR1, W0, W1, W2⟩ HQ
  iapply (op_send_p I K c _ (pk c 3) (dev10 c) 5 1 rfl (by decide) 2 1 0 1 rfl rfl rfl rfl 2 rfl rfl rfl rfl _ _ rfl rfl) $$ [O5 F1 HO T5 U1]
  · isplitr; · iexact HR
    isplitl [O5]; · iexact O5
    isplitl [F1]; · iexact F1
    isplitl [HO]; · iexact HO
    isplitl [T5]; · iexact T5
    iexact U1
  iintro ⟨CP5, HO⟩
  iapply (op_wait_xr I K c 1 (pk c 2) rfl 2 (by decide) rfl NX_eq.symm) $$ [HO PR1 CR1]
  · isplitr; · iexact HR
    isplitr; · iexact HL
    isplitl [HO]; · iexact HO
    isplitl [PR1]; · iexact PR1
    iexact CR1
  iintro ⟨HO, SR1, Y1⟩
  iapply (op_ld_x I c (pk c 2) fullShare (off4_2 c)) $$ Y1
  iintro Y1
  iapply (op_ld_wq I c rfl) $$ W0
  iintro W0
  iapply (op_ld_wk I c rfl) $$ W1
  iintro W1
  iapply (op_ld_wv I c rfl) $$ W2
  iintro W2
  iapply (wp_done c _)
  iapply HQ
  isplitl [HO]; · iexact HO
  isplitl [CP5]; · iexact CP5
  isplitl [SR1]; · iexact SR1
  isplitl [Y1]; · iexact Y1
  isplitl [W0]; · iexact W0
  isplitl [W1]; · iexact W1
  iexact W2

/-- The upper half of the partial two places on. -/
theorem part19_spec {Q : _ → sProp 𝕄} (c : Dev nD) (v591 : BitVec 32) (v603 v606 v609 : FVec F S512x1024 .bf16) (v625 v641 v657 v673 v689 v705 v706 v708 : FVec F S512x128 .bf16) (v709 : FVec F S128x512 .bf16) (cst : FVec F S512x512 .f32)
    (hw0 : k0_pay86 v603 v606 v609 v625 v641 v657 v673 v689 v705 v706 v708 v709 cst (aO I c) = half I c 1 0) :
    iprop(recs I K ∗ levAts L lv ∗ whPt c cc0_scratch4 (aO I c)
      ∗ (∃ f, poutPt c (hS 1 0) f))
      ⊢ iprop(((whPt c cc0_scratch4 (aO I c)
        ∗ poutPt c (hS 1 0) (poutB I c)) -∗ Q (k0_pay85 v603 v606 v609 v625 v641 v657 v673 v689 v705 v706 v708 v709 cst))
        -∗ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v591 v603 v606 v609 v625 v641 v657 v673 v689 v705 v706 v708 v709 cst) Q) := by
  simp only [k0_part19_eq_skeleton]
  unfold k0_part19_skel
  simp only [semSignalWord, semWaitWord, Prog.lift, Prog.bind_op, Prog.bind_ret, Prog.pure_eq_ret, wp_deviceId]
  iintro ⟨#HR, #HL, WO, O2⟩ HQ
  iapply (op_ld_wo c _) $$ WO
  iintro WO
  icases O2 with ⟨%fO2, O2⟩
  iapply (op_ld_pout_any c 1 0 1 0 rfl rfl fO2 rfl) $$ O2
  iintro O2
  iapply (op_st_pout I c 1 0 1 0 rfl rfl fO2 rfl hw0) $$ O2
  iintro O2
  iapply (wp_done c _)
  iapply HQ
  isplitl [WO]; · iexact WO
  iexact O2

/-- The partial two places on is sent in two halves. -/
theorem part20_spec {Q : _ → sProp 𝕄} (c : Dev nD) (v2 v591 : BitVec 32) (v738 : FVec F S512x1024 .bf16)
    (hw1 : k0_pay87 v738 (aO I c) = half I c 1 1) :
    iprop(recs I K ∗ levAts L lv ∗ ow c 2
      ∗ poutPt c (hS 1 0) (poutB I c)
      ∗ (∃ f, poutPt c (hS 1 1) f)
      ∗ (∃ f, pinPt (pk c 2) (hS 1 0) f)
      ∗ (∃ f, pinPt (pk c 2) (hS 1 1) f)
      ∗ tk (c) (psem 2) 0
      ∗ tk (pk c 2) (qsem 2) 0
      ∗ tk (c) (psem 3) 0
      ∗ tk (pk c 2) (qsem 3) 0
      ∗ whPt c cc0_scratch4 (aO I c))
      ⊢ iprop(((ow c 0
        ∗ cr c (psem 2) NP
        ∗ cr c (psem 3) NP
        ∗ whPt c cc0_scratch4 (aO I c)) -∗ Q ⟨⟩)
        -∗ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v591 v738) Q) := by
  simp only [k0_part20_eq_skeleton]
  unfold k0_part20_skel
  simp only [semSignalWord, semWaitWord, Prog.lift, Prog.bind_op, Prog.bind_ret, Prog.pure_eq_ret, wp_deviceId]
  iintro ⟨#HR, #HL, HO, O2, O3, F2, F3, T2, U2, T3, U3, WO⟩ HQ
  iapply (op_send_p I K c _ (pk c 2) (dev11 c) 2 2 rfl (by decide) 1 0 1 0 rfl rfl rfl rfl 1 rfl rfl rfl rfl _ _ rfl rfl) $$ [O2 F2 HO T2 U2]
  · isplitr; · iexact HR
    isplitl [O2]; · iexact O2
    isplitl [F2]; · iexact F2
    isplitl [HO]; · iexact HO
    isplitl [T2]; · iexact T2
    iexact U2
  iintro ⟨CP2, HO⟩
  iapply (op_ld_wo c _) $$ WO
  iintro WO
  icases O3 with ⟨%fO3, O3⟩
  iapply (op_ld_pout_any c 1 1 1 1 rfl rfl fO3 rfl) $$ O3
  iintro O3
  iapply (op_st_pout I c 1 1 1 1 rfl rfl fO3 rfl hw1) $$ O3
  iintro O3
  iapply (op_send_p I K c _ (pk c 2) (dev12 c) 3 3 rfl (by decide) 1 1 1 1 rfl rfl rfl rfl 0 rfl rfl rfl rfl _ _ rfl rfl) $$ [O3 F3 HO T3 U3]
  · isplitr; · iexact HR
    isplitl [O3]; · iexact O3
    isplitl [F3]; · iexact F3
    isplitl [HO]; · iexact HO
    isplitl [T3]; · iexact T3
    iexact U3
  iintro ⟨CP3, HO⟩
  iapply (wp_done c _)
  iapply HQ
  isplitl [HO]; · iexact HO
  isplitl [CP2]; · iexact CP2
  isplitl [CP3]; · iexact CP3
  iexact WO

/-- The partial from one place back is added. -/
theorem part21_spec {Q : _ → sProp 𝕄} (c : Dev nD) (v2 : BitVec 32) (u : Vec F S1x512x1024 .f32) :
    iprop(recs I K ∗ levAts L lv ∗ ow c 0
      ∗ pos c (qsem 4)
      ∗ cr c (qsem 4) NP
      ∗ pos c (qsem 5)
      ∗ cr c (qsem 5) NP
      ∗ whPt c cc0_stg5_0 u)
      ⊢ iprop(((ow c 0
        ∗ sv c (qsem 4)
        ∗ sv c (qsem 5)
        ∗ pinPt c (slotS 2) (pinB I c)
        ∗ whPt c cc0_stg5_0 (k0_pay88 u (pinS I c 2))) -∗ Q ⟨⟩)
        -∗ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v2) Q) := by
  simp only [k0_part21_eq_skeleton]
  unfold k0_part21_skel
  simp only [semSignalWord, semWaitWord, Prog.lift, Prog.bind_op, Prog.bind_ret, Prog.pure_eq_ret, wp_deviceId]
  iintro ⟨#HR, #HL, HO, PQ4, CQ4, PQ5, CQ5, HU⟩ HQ
  iapply (op_wait_pr I K c 4 2 0 rfl rfl rfl NP_eq.symm) $$ [HO PQ4 CQ4]
  · isplitr; · iexact HR
    isplitr; · iexact HL
    isplitl [HO]; · iexact HO
    isplitl [PQ4]; · iexact PQ4
    iexact CQ4
  iintro ⟨HO, SQ4, I4⟩
  iapply (op_wait_pr I K c 5 2 1 rfl rfl rfl NP_eq.symm) $$ [HO PQ5 CQ5]
  · isplitr; · iexact HR
    isplitr; · iexact HL
    isplitl [HO]; · iexact HO
    isplitl [PQ5]; · iexact PQ5
    iexact CQ5
  iintro ⟨HO, SQ5, I5⟩
  ihave J2 := (pin_join I c 2 2 rfl) $$ [I4 I5]
  · isplitl [I4]; · iexact I4
    iexact I5
  iapply (op_ld_out c _) $$ HU
  iintro HU
  iapply (op_ld_pin I c 2 2 rfl rfl) $$ J2
  iintro J2
  iapply (op_ld_out c _) $$ HU
  iintro HU
  iapply (op_st_out c _ _) $$ HU
  iintro HU
  iapply (wp_done c _)
  iapply HQ
  isplitl [HO]; · iexact HO
  isplitl [SQ4]; · iexact SQ4
  isplitl [SQ5]; · iexact SQ5
  isplitl [J2]; · iexact J2
  iexact HU

/-- The partial from three places back is added. -/
theorem part22_spec {Q : _ → sProp 𝕄} (c : Dev nD) (v2 : BitVec 32) (u : Vec F S1x512x1024 .f32) :
    iprop(recs I K ∗ levAts L lv ∗ ow c 0
      ∗ pos c (qsem 0)
      ∗ cr c (qsem 0) NP
      ∗ pos c (qsem 1)
      ∗ cr c (qsem 1) NP
      ∗ pos c (qsem 2)
      ∗ cr c (qsem 2) NP
      ∗ whPt c cc0_stg5_0 u)
      ⊢ iprop(((ow c 0
        ∗ sv c (qsem 0)
        ∗ sv c (qsem 1)
        ∗ sv c (qsem 2)
        ∗ pinPt c (slotS 0) (pinB I c)
        ∗ pinPt c (hS 1 0) (pinB I c)
        ∗ whPt c cc0_stg5_0 (k0_pay89 u (pinS I c 0))) -∗ Q ⟨⟩)
        -∗ WP c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v2) Q) := by
  simp only [k0_part22_eq_skeleton]
  unfold k0_part22_skel
  simp only [semSignalWord, semWaitWord, Prog.lift, Prog.bind_op, Prog.bind_ret, Prog.pure_eq_ret, wp_deviceId]
  iintro ⟨#HR, #HL, HO, PQ0, CQ0, PQ1, CQ1, PQ2, CQ2, HU⟩ HQ
  iapply (op_wait_pr I K c 0 0 0 rfl rfl rfl NP_eq.symm) $$ [HO PQ0 CQ0]
  · isplitr; · iexact HR
    isplitr; · iexact HL
    isplitl [HO]; · iexact HO
    isplitl [PQ0]; · iexact PQ0
    iexact CQ0
  iintro ⟨HO, SQ0, I0⟩
  iapply (op_wait_pr I K c 1 0 1 rfl rfl rfl NP_eq.symm) $$ [HO PQ1 CQ1]
  · isplitr; · iexact HR
    isplitr; · iexact HL
    isplitl [HO]; · iexact HO
    isplitl [PQ1]; · iexact PQ1
    iexact CQ1
  iintro ⟨HO, SQ1, I1⟩
  ihave J0 := (pin_join I c 0 0 rfl) $$ [I0 I1]
  · isplitl [I0]; · iexact I0
    iexact I1
  iapply (op_ld_out c _) $$ HU
  iintro HU
  iapply (op_ld_pin I c 0 0 rfl rfl) $$ J0
  iintro J0
  iapply (op_ld_out c _) $$ HU
  iintro HU
  iapply (op_st_out c _ _) $$ HU
  iintro HU
  iapply (op_wait_pr I K c 2 1 0 rfl rfl rfl NP_eq.symm) $$ [HO PQ2 CQ2]
  · isplitr; · iexact HR
    isplitr; · iexact HL
    isplitl [HO]; · iexact HO
    isplitl [PQ2]; · iexact PQ2
    iexact CQ2
  iintro ⟨HO, SQ2, I2⟩
  iapply (wp_done c _)
  iapply HQ
  isplitl [HO]; · iexact HO
  isplitl [SQ0]; · iexact SQ0
  isplitl [SQ1]; · iexact SQ1
  isplitl [SQ2]; · iexact SQ2
  isplitl [J0]; · iexact J0
  isplitl [I2]; · iexact I2
  iexact HU

/-- The partial from two places back is added; the third send of `x` has landed. -/
theorem part23_spec {Q : _ → sProp 𝕄} (c : Dev nD) (v2 : BitVec 32) (u : Vec F S1x512x1024 .f32) :
    iprop(recs I K ∗ levAts L lv ∗ ow c 0
      ∗ pos c (qsem 3)
      ∗ cr c (qsem 3) NP
      ∗ pinPt c (hS 1 0) (pinB I c)
      ∗ whPt c cc0_stg5_0 u
      ∗ pos c (xsem 1)
      ∗ cr c (xsem 1) NX)
      ⊢ iprop(((ow c 0
        ∗ sv c (qsem 3)
        ∗ pinPt c (slotS 1) (pinB I c)
        ∗ whPt c cc0_stg5_0 (k0_pay90 u (pinS I c 1))
        ∗ sv c (xsem 1)
        ∗ xgPt c (xgS c.val) (qs 1) (xgB I)) -∗ Q ⟨⟩)
        -∗ WP c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Q) := by
  simp only [k0_part23_eq_skeleton]
  unfold k0_part23_skel
  simp only [semSignalWord, semWaitWord, Prog.lift, Prog.bind_op, Prog.bind_ret, Prog.pure_eq_ret, wp_deviceId]
  iintro ⟨#HR, #HL, HO, PQ3, CQ3, I2, HU, PX1, CX1⟩ HQ
  iapply (op_wait_pr I K c 3 1 1 rfl rfl rfl NP_eq.symm) $$ [HO PQ3 CQ3]
  · isplitr; · iexact HR
    isplitr; · iexact HL
    isplitl [HO]; · iexact HO
    isplitl [PQ3]; · iexact PQ3
    iexact CQ3
  iintro ⟨HO, SQ3, I3⟩
  ihave J1 := (pin_join I c 1 1 rfl) $$ [I2 I3]
  · isplitl [I2]; · iexact I2
    iexact I3
  iapply (op_ld_out c _) $$ HU
  iintro HU
  iapply (op_ld_pin I c 1 1 rfl rfl) $$ J1
  iintro J1
  iapply (op_ld_out c _) $$ HU
  iintro HU
  iapply (op_st_out c _ _) $$ HU
  iintro HU
  iapply (op_wait_xs I K c 1 0 rfl NX_eq.symm) $$ [HO PX1 CX1]
  · isplitr; · iexact HR
    isplitr; · iexact HL
    isplitl [HO]; · iexact HO
    isplitl [PX1]; · iexact PX1
    iexact CX1
  iintro ⟨HO, SX1, Q1⟩
  iapply (wp_done c _)
  iapply HQ
  isplitl [HO]; · iexact HO
  isplitl [SQ3]; · iexact SQ3
  isplitl [J1]; · iexact J1
  isplitl [HU]; · iexact HU
  isplitl [SX1]; · iexact SX1
  iexact Q1

/-- Four of the sends of partials have landed. -/
theorem part24_spec {Q : _ → sProp 𝕄} (c : Dev nD) :
    iprop(recs I K ∗ levAts L lv ∗ ow c 0
      ∗ pos c (psem 0)
      ∗ cr c (psem 0) NP
      ∗ pos c (psem 1)
      ∗ cr c (psem 1) NP
      ∗ pos c (psem 4)
      ∗ cr c (psem 4) NP
      ∗ pos c (psem 5)
      ∗ cr c (psem 5) NP)
      ⊢ iprop(((ow c 0
        ∗ sv c (psem 0)
        ∗ poutPt c (hS 0 0) (poutB I c)
        ∗ sv c (psem 1)
        ∗ poutPt c (hS 0 1) (poutB I c)
        ∗ sv c (psem 4)
        ∗ poutPt c (hS 2 0) (poutB I c)
        ∗ sv c (psem 5)
        ∗ poutPt c (hS 2 1) (poutB I c)) -∗ Q ⟨⟩)
        -∗ WP c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q) := by
  simp only [k0_part24_eq_skeleton]
  unfold k0_part24_skel
  simp only [semSignalWord, semWaitWord, Prog.lift, Prog.bind_op, Prog.bind_ret, Prog.pure_eq_ret, wp_deviceId]
  iintro ⟨#HR, #HL, HO, PP0, CP0, PP1, CP1, PP4, CP4, PP5, CP5⟩ HQ
  iapply (op_wait_ps I K c 0 0 0 rfl rfl 0 rfl NP_eq.symm) $$ [HO PP0 CP0]
  · isplitr; · iexact HR
    isplitr; · iexact HL
    isplitl [HO]; · iexact HO
    isplitl [PP0]; · iexact PP0
    iexact CP0
  iintro ⟨HO, SP0, O0⟩
  iapply (op_wait_ps I K c 1 0 1 rfl rfl 0 rfl NP_eq.symm) $$ [HO PP1 CP1]
  · isplitr; · iexact HR
    isplitr; · iexact HL
    isplitl [HO]; · iexact HO
    isplitl [PP1]; · iexact PP1
    iexact CP1
  iintro ⟨HO, SP1, O1⟩
  iapply (op_wait_ps I K c 4 2 0 rfl rfl 0 rfl NP_eq.symm) $$ [HO PP4 CP4]
  · isplitr; · iexact HR
    isplitr; · iexact HL
    isplitl [HO]; · iexact HO
    isplitl [PP4]; · iexact PP4
    iexact CP4
  iintro ⟨HO, SP4, O4⟩
  iapply (op_wait_ps I K c 5 2 1 rfl rfl 0 rfl NP_eq.symm) $$ [HO PP5 CP5]
  · isplitr; · iexact HR
    isplitr; · iexact HL
    isplitl [HO]; · iexact HO
    isplitl [PP5]; · iexact PP5
    iexact CP5
  iintro ⟨HO, SP5, O5⟩
  iapply (wp_done c _)
  iapply HQ
  isplitl [HO]; · iexact HO
  isplitl [SP0]; · iexact SP0
  isplitl [O0]; · iexact O0
  isplitl [SP1]; · iexact SP1
  isplitl [O1]; · iexact O1
  isplitl [SP4]; · iexact SP4
  isplitl [O4]; · iexact O4
  isplitl [SP5]; · iexact SP5
  iexact O5

end Cert.Mha
end
-- ==== Proof.Body.lean ====
/-
# The body

The printed parts composed at a symbolic device, between the scratch buffers whole and the scratch buffers whole again.
-/
module

public import proofs.«01_k».proof.Proof.Parts

@[expose] public section

set_option maxRecDepth 8000

noncomputable section

namespace Cert.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts that only compute -/

theorem part4_spec {Q : _ → sProp 𝕄} (c : Dev nD) (v68 v71 v74 : FVec F S512x1024 .bf16) (v93 : FVec F S512x128 .bf16) (v95 : FVec F S512x512 .f32) :
    Q ⟨k0_pay13 v93 v95, k0_pay14 v68 v71 v74, k0_pay15 v68 v71 v74, k0_pay16 v74, k0_pay17 v68 v71⟩ ⊢ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v68 v71 v74 v93 v95) Q := by
  simp only [k0_part4_eq_skeleton]
  exact wp_done c _
theorem part5_spec {Q : _ → sProp 𝕄} (c : Dev nD) (v68 v71 v74 : FVec F S512x1024 .bf16) (v141 : FVec F S512x128 .bf16) (v143 : FVec F S512x512 .f32) :
    Q ⟨k0_pay18 v141 v143, k0_pay19 v68 v71 v74, k0_pay20 v68 v71 v74, k0_pay21 v74, k0_pay22 v68 v71⟩ ⊢ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v68 v71 v74 v141 v143) Q := by
  simp only [k0_part5_eq_skeleton]
  exact wp_done c _
theorem part8_spec {Q : _ → sProp 𝕄} (c : Dev nD) (v237 v240 v243 : FVec F S512x1024 .bf16) (v246 : FVec F S512x128 .bf16) (v252 : FVec F S512x512 .bf16) :
    Q ⟨k0_pay30 v246 v252, k0_pay31 v237 v240 v243, k0_pay32 v237 v240 v243, k0_pay33 v243, k0_pay34 v237 v240⟩ ⊢ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v237 v240 v243 v246 v252) Q := by
  simp only [k0_part8_eq_skeleton]
  exact wp_done c _
theorem part9_spec {Q : _ → sProp 𝕄} (c : Dev nD) (v237 v240 v243 : FVec F S512x1024 .bf16) (v294 : FVec F S512x128 .bf16) (v300 : FVec F S512x512 .bf16) :
    Q ⟨k0_pay35 v294 v300, k0_pay36 v237 v240 v243, k0_pay37 v237 v240 v243, k0_pay38 v243, k0_pay39 v237 v240⟩ ⊢ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v237 v240 v243 v294 v300) Q := by
  simp only [k0_part9_eq_skeleton]
  exact wp_done c _
theorem part13_spec {Q : _ → sProp 𝕄} (c : Dev nD) (v420 v423 v426 : FVec F S512x1024 .bf16) (v455 v456 : FVec F S512x128 .f32) :
    Q ⟨k0_pay51 v455 v456, k0_pay52 v420 v423 v426, k0_pay53 v420 v423 v426, k0_pay55 v420 v423 v426, k0_pay56 v420 v423⟩ ⊢ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v420 v423 v426 v455 v456) Q := by
  simp only [k0_part13_eq_skeleton]
  exact wp_done c _
theorem part14_spec {Q : _ → sProp 𝕄} (c : Dev nD) (v420 v423 v426 : FVec F S512x1024 .bf16) (v503 v504 : FVec F S512x128 .f32) :
    Q ⟨k0_pay57 v503 v504, k0_pay58 v420 v423 v426, k0_pay59 v420 v423 v426, k0_pay61 v420 v423 v426, k0_pay62 v420 v423⟩ ⊢ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v420 v423 v426 v503 v504) Q := by
  simp only [k0_part14_eq_skeleton]
  exact wp_done c _
theorem part17_spec {Q : _ → sProp 𝕄} (c : Dev nD) (v603 v606 v609 : FVec F S512x1024 .bf16) (v610 v612 : FVec F S512x128 .bf16) (v613 : FVec F S128x512 .bf16) (cst : FVec F S512x512 .f32) :
    Q ⟨k0_pay73 v610 v612 v613 cst, k0_pay74 v603 v606 v609, k0_pay75 v603 v606 v609, k0_pay76 v603, k0_pay77 v609, k0_pay78 v606, zacc⟩ ⊢ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v603 v606 v609 v610 v612 v613 cst) Q := by
  simp only [k0_part17_eq_skeleton]
  exact wp_done c _
theorem part18_spec {Q : _ → sProp 𝕄} (c : Dev nD) (v603 v606 v609 : FVec F S512x1024 .bf16) (v658 v660 : FVec F S512x128 .bf16) (v661 : FVec F S128x512 .bf16) (cst : FVec F S512x512 .f32) :
    Q ⟨k0_pay79 v658 v660 v661 cst, k0_pay80 v603 v606 v609, k0_pay81 v603 v606 v609, k0_pay82 v603, k0_pay83 v609, k0_pay84 v606, zacc⟩ ⊢ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v603 v606 v609 v658 v660 v661 cst) Q := by
  simp only [k0_part18_eq_skeleton]
  exact wp_done c _

/-! ## The buffers in pieces -/

/-- A buffer over two sets apart is the buffer over each. -/
theorem cut {ℓ : Loc nD τ sig} {S T U : Finset (Idx ℓ)} (hd : Disjoint S T) (hU : S ∪ T = U) (f : Buf (Elt F) ℓ) :
    (ℓ ↦[U]{fullShare} f : sProp 𝕄) ⊢ iprop((ℓ ↦[S]{fullShare} f) ∗ (ℓ ↦[T]{fullShare} f)) := by
  subst hU; exact (pointsTo_union hd).1
theorem paste {ℓ : Loc nD τ sig} {S T U : Finset (Idx ℓ)} (hd : Disjoint S T) (hU : S ∪ T = U) (f : Buf (Elt F) ℓ) :
    iprop((ℓ ↦[S]{fullShare} f) ∗ (ℓ ↦[T]{fullShare} f)) ⊢ (ℓ ↦[U]{fullShare} f : sProp 𝕄) := by
  subst hU; exact (pointsTo_union hd).2

theorem slot_rest : Disjoint (slotS 0) (slotS 1 ∪ slotS 2) :=
  Finset.disjoint_union_right.mpr ⟨slotS_disjoint (by decide), slotS_disjoint (by decide)⟩
theorem w16_rest : Disjoint (w16S 0) (w16S 1 ∪ w16S 2) :=
  Finset.disjoint_union_right.mpr ⟨w16S_disjoint (by decide), w16S_disjoint (by decide)⟩

/-- The gathered entries, starting from the device's own. -/
def xgT (c : Dev nD) (k : Fin 4) : Finset S4x512x1024.Idx := xgS (pk c k).val
theorem pk_ne (c : Dev nD) {j k : Fin 4} (h : j ≠ k) : (pk c j).val ≠ (pk c k).val := by revert c j k; decide
theorem xg_rest1 (c : Dev nD) : Disjoint (xgS (pk c 2).val) (xgS (pk c 3).val) := xgS_disjoint (pk_ne c (by decide))
theorem xg_rest2 (c : Dev nD) : Disjoint (xgS (pk c 1).val) (xgS (pk c 2).val ∪ xgS (pk c 3).val) :=
  Finset.disjoint_union_right.mpr ⟨xgS_disjoint (pk_ne c (by decide)), xgS_disjoint (pk_ne c (by decide))⟩
theorem pk_own_ne (c : Dev nD) {k : Fin 4} (h : k ≠ 0) : c.val ≠ (pk c k).val := by revert c k; decide
theorem xg_rest3 (c : Dev nD) : Disjoint (xgS c.val) (xgS (pk c 1).val ∪ (xgS (pk c 2).val ∪ xgS (pk c 3).val)) :=
  Finset.disjoint_union_right.mpr ⟨xgS_disjoint (pk_own_ne c (by decide)),
    Finset.disjoint_union_right.mpr ⟨xgS_disjoint (pk_own_ne c (by decide)), xgS_disjoint (pk_own_ne c (by decide))⟩⟩
theorem pk_all (c : Dev nD) (n : Fin 4) : n.val = c.val ∨ n.val = (pk c 1).val ∨ n.val = (pk c 2).val ∨ n.val = (pk c 3).val := by
  revert c n; decide
theorem xg_cover (c : Dev nD) : xgS c.val ∪ (xgS (pk c 1).val ∪ (xgS (pk c 2).val ∪ xgS (pk c 3).val)) = Finset.univ := by
  ext i; simp only [Finset.mem_union, mem_xgS, Finset.mem_univ, iff_true]; exact pk_all c (i 0)

/-- pin: whole, and in its three parts. -/
theorem pin_cut (c : Dev nD) (f : S3x512x1024.Idx → Elt F .bf16) :
    whPt c cc0_scratch1 f ⊢ iprop(pinPt c (slotS 0) f ∗ pinPt c (slotS 1) f ∗ pinPt c (slotS 2) f) := by
  iintro H
  ihave H := (cut (U := Finset.univ) slot_rest slotS_cover f) $$ H
  icases H with ⟨H0, H⟩
  ihave H := (cut (slotS_disjoint (by decide)) rfl f) $$ H
  icases H with ⟨H1, H2⟩
  isplitl [H0]; · iexact H0
  isplitl [H1]; · iexact H1
  iexact H2
theorem pin_paste (c : Dev nD) (f : S3x512x1024.Idx → Elt F .bf16) :
    iprop(pinPt c (slotS 0) f ∗ pinPt c (slotS 1) f ∗ pinPt c (slotS 2) f) ⊢ whPt c cc0_scratch1 f := by
  iintro ⟨H0, H1, H2⟩
  iapply (paste (U := Finset.univ) slot_rest slotS_cover f)
  isplitl [H0]; · iexact H0
  iapply (paste (slotS_disjoint (by decide)) rfl f)
  isplitl [H1]; · iexact H1
  iexact H2
/-- pout: whole, and in its three parts. -/
theorem pout_cut (c : Dev nD) (f : S3x512x1024.Idx → Elt F .bf16) :
    whPt c cc0_scratch2 f ⊢ iprop(poutPt c (slotS 0) f ∗ poutPt c (slotS 1) f ∗ poutPt c (slotS 2) f) := by
  iintro H
  ihave H := (cut (U := Finset.univ) slot_rest slotS_cover f) $$ H
  icases H with ⟨H0, H⟩
  ihave H := (cut (slotS_disjoint (by decide)) rfl f) $$ H
  icases H with ⟨H1, H2⟩
  isplitl [H0]; · iexact H0
  isplitl [H1]; · iexact H1
  iexact H2
theorem pout_paste (c : Dev nD) (f : S3x512x1024.Idx → Elt F .bf16) :
    iprop(poutPt c (slotS 0) f ∗ poutPt c (slotS 1) f ∗ poutPt c (slotS 2) f) ⊢ whPt c cc0_scratch2 f := by
  iintro ⟨H0, H1, H2⟩
  iapply (paste (U := Finset.univ) slot_rest slotS_cover f)
  isplitl [H0]; · iexact H0
  iapply (paste (slotS_disjoint (by decide)) rfl f)
  isplitl [H1]; · iexact H1
  iexact H2
/-- w16: whole, and in its three parts. -/
theorem w16_cut (c : Dev nD) (f : S1024x3072.Idx → Elt F .bf16) :
    whPt c cc0_scratch3 f ⊢ iprop(w16Pt c (w16S 0) f ∗ w16Pt c (w16S 1) f ∗ w16Pt c (w16S 2) f) := by
  iintro H
  ihave H := (cut (U := Finset.univ) w16_rest w16S_cover f) $$ H
  icases H with ⟨H0, H⟩
  ihave H := (cut (w16S_disjoint (by decide)) rfl f) $$ H
  icases H with ⟨H1, H2⟩
  isplitl [H0]; · iexact H0
  isplitl [H1]; · iexact H1
  iexact H2
theorem w16_paste (c : Dev nD) (f : S1024x3072.Idx → Elt F .bf16) :
    iprop(w16Pt c (w16S 0) f ∗ w16Pt c (w16S 1) f ∗ w16Pt c (w16S 2) f) ⊢ whPt c cc0_scratch3 f := by
  iintro ⟨H0, H1, H2⟩
  iapply (paste (U := Finset.univ) w16_rest w16S_cover f)
  isplitl [H0]; · iexact H0
  iapply (paste (w16S_disjoint (by decide)) rfl f)
  isplitl [H1]; · iexact H1
  iexact H2
/-- A slot of pin: its two halves. -/
theorem pin_halves (c : Dev nD) (j : ℕ) (f : S3x512x1024.Idx → Elt F .bf16) :
    pinPt c (slotS j) f ⊢ iprop(pinPt c (hS j 0) f ∗ pinPt c (hS j 1) f) := by
  iintro H; iapply (cut (hS_disjoint j) (hS_union j) f) $$ H
theorem pin_whole (c : Dev nD) (j : ℕ) (f : S3x512x1024.Idx → Elt F .bf16) :
    iprop(pinPt c (hS j 0) f ∗ pinPt c (hS j 1) f) ⊢ pinPt c (slotS j) f := by
  iintro H; iapply (paste (hS_disjoint j) (hS_union j) f) $$ H
/-- A slot of pout: its two halves. -/
theorem pout_halves (c : Dev nD) (j : ℕ) (f : S3x512x1024.Idx → Elt F .bf16) :
    poutPt c (slotS j) f ⊢ iprop(poutPt c (hS j 0) f ∗ poutPt c (hS j 1) f) := by
  iintro H; iapply (cut (hS_disjoint j) (hS_union j) f) $$ H
theorem pout_whole (c : Dev nD) (j : ℕ) (f : S3x512x1024.Idx → Elt F .bf16) :
    iprop(poutPt c (hS j 0) f ∗ poutPt c (hS j 1) f) ⊢ poutPt c (slotS j) f := by
  iintro H; iapply (paste (hS_disjoint j) (hS_union j) f) $$ H
/-- The gathered entries: whole, and slot by slot from the device's own on. -/
theorem xg_cut (c : Dev nD) (f : S4x512x1024.Idx → Elt F .bf16) :
    whPt c cc0_scratch0 f ⊢ iprop(xgPt c (xgS c.val) fullShare f ∗ xgPt c (xgS (pk c 1).val) fullShare f
      ∗ xgPt c (xgS (pk c 2).val) fullShare f ∗ xgPt c (xgS (pk c 3).val) fullShare f) := by
  iintro H
  ihave H := (cut (U := Finset.univ) (xg_rest3 c) (xg_cover c) f) $$ H
  icases H with ⟨H0, H⟩
  ihave H := (cut (xg_rest2 c) rfl f) $$ H
  icases H with ⟨H1, H⟩
  ihave H := (cut (xg_rest1 c) rfl f) $$ H
  icases H with ⟨H2, H3⟩
  isplitl [H0]; · iexact H0
  isplitl [H1]; · iexact H1
  isplitl [H2]; · iexact H2
  iexact H3
theorem xg_paste (c : Dev nD) (f : S4x512x1024.Idx → Elt F .bf16) :
    iprop(xgPt c (xgS c.val) fullShare f ∗ xgPt c (xgS (pk c 1).val) fullShare f
      ∗ xgPt c (xgS (pk c 2).val) fullShare f ∗ xgPt c (xgS (pk c 3).val) fullShare f) ⊢ whPt c cc0_scratch0 f := by
  iintro ⟨H0, H1, H2, H3⟩
  iapply (paste (U := Finset.univ) (xg_rest3 c) (xg_cover c) f)
  isplitl [H0]; · iexact H0
  iapply (paste (xg_rest2 c) rfl f)
  isplitl [H1]; · iexact H1
  iapply (paste (xg_rest1 c) rfl f)
  isplitl [H2]; · iexact H2
  iexact H3
/-- The own slot: whole, and in the three shares the sends and the body's own loads take. -/
theorem own_cut (c : Dev nD) (S : Finset S4x512x1024.Idx) (f : S4x512x1024.Idx → Elt F .bf16) :
    xgPt c S fullShare f ⊢ iprop(xgPt c S (qs 0) f ∗ xgPt c S (qs 1) f ∗ xgPt c S (qs 2) f) := by
  iintro H
  ihave H := (pointsTo_share (PosShare.mem_left_op_right fullShare)).1 $$ H
  icases H with ⟨H0, H⟩
  ihave H := (pointsTo_share (PosShare.mem_left_op_right (fullShare : PosShare TreeShare).right)).1 $$ H
  icases H with ⟨H2, H1⟩
  isplitl [H0]; · iexact H0
  isplitl [H1]; · iexact H1
  iexact H2
theorem own_paste (c : Dev nD) (S : Finset S4x512x1024.Idx) (f : S4x512x1024.Idx → Elt F .bf16) :
    iprop(xgPt c S (qs 0) f ∗ xgPt c S (qs 1) f ∗ xgPt c S (qs 2) f) ⊢ xgPt c S fullShare f := by
  iintro ⟨H0, H1, H2⟩
  iapply (pointsTo_share (PosShare.mem_left_op_right fullShare)).2
  isplitl [H0]; · iexact H0
  iapply (pointsTo_share (PosShare.mem_left_op_right (fullShare : PosShare TreeShare).right)).2
  isplitl [H2]; · iexact H2
  iexact H1

/-! ## What a barrier payment hands over -/

theorem bar_pay0 (c : Dev nD) :
    iprop((∃ f, xgPt c (xgS (pk c 1).val) fullShare f) ∗ (∃ f, pinPt c (hS 0 0) f) ∗ (∃ f, pinPt c (hS 0 1) f))
      ⊢ (barPay (pk c 1) 0 : sProp 𝕄) := by
  have e : pk (pk c 1) ⟨3 - (0 : Fin 3).val, by decide⟩ = c := pk_13 c
  unfold barPay; rw [e]; exact .rfl
theorem bar_got0 (c : Dev nD) :
    (barPay c 0 : sProp 𝕄) ⊢ iprop((∃ f, xgPt (pk c 3) (xgS c.val) fullShare f) ∗ (∃ f, pinPt (pk c 3) (hS 0 0) f)
      ∗ (∃ f, pinPt (pk c 3) (hS 0 1) f)) := .rfl
theorem bar_pay1 (c : Dev nD) :
    iprop((∃ f, xgPt c (xgS (pk c 2).val) fullShare f) ∗ (∃ f, pinPt c (hS 1 0) f) ∗ (∃ f, pinPt c (hS 1 1) f))
      ⊢ (barPay (pk c 2) 1 : sProp 𝕄) := by
  have e : pk (pk c 2) ⟨3 - (1 : Fin 3).val, by decide⟩ = c := pk_22 c
  unfold barPay; rw [e]; exact .rfl
theorem bar_got1 (c : Dev nD) :
    (barPay c 1 : sProp 𝕄) ⊢ iprop((∃ f, xgPt (pk c 2) (xgS c.val) fullShare f) ∗ (∃ f, pinPt (pk c 2) (hS 1 0) f)
      ∗ (∃ f, pinPt (pk c 2) (hS 1 1) f)) := .rfl
theorem bar_pay2 (c : Dev nD) :
    iprop((∃ f, xgPt c (xgS (pk c 3).val) fullShare f) ∗ (∃ f, pinPt c (hS 2 0) f) ∗ (∃ f, pinPt c (hS 2 1) f))
      ⊢ (barPay (pk c 3) 2 : sProp 𝕄) := by
  have e : pk (pk c 3) ⟨3 - (2 : Fin 3).val, by decide⟩ = c := pk_31 c
  unfold barPay; rw [e]; exact .rfl
theorem bar_got2 (c : Dev nD) :
    (barPay c 2 : sProp 𝕄) ⊢ iprop((∃ f, xgPt (pk c 1) (xgS c.val) fullShare f) ∗ (∃ f, pinPt (pk c 1) (hS 2 0) f)
      ∗ (∃ f, pinPt (pk c 1) (hS 2 1) f)) := .rfl

variable (I : Dev nD → Ins F) (K : Dev nD × Fin 19 → ℕ)

/-- What the body takes of the protocol: its debts, the tokens it pays with, its place at each of its cells, and the
    credits that come with the launch. -/
def bodyOwes (c : Dev nD) : sProp 𝕄 :=
  iprop(ow c 12
    ∗ tk (pk c 1) 0 0
    ∗ tk (pk c 2) 0 1
    ∗ tk (pk c 3) 0 2
    ∗ tk (c) (xsem 0) 0
    ∗ tk (c) (xsem 1) 0
    ∗ tk (c) (xsem 2) 0
    ∗ tk (pk c 1) (rsem 2) 0
    ∗ tk (pk c 2) (rsem 1) 0
    ∗ tk (pk c 3) (rsem 0) 0
    ∗ tk (c) (psem 0) 0
    ∗ tk (c) (psem 1) 0
    ∗ tk (c) (psem 2) 0
    ∗ tk (c) (psem 3) 0
    ∗ tk (c) (psem 4) 0
    ∗ tk (c) (psem 5) 0
    ∗ tk (pk c 1) (qsem 4) 0
    ∗ tk (pk c 1) (qsem 5) 0
    ∗ tk (pk c 2) (qsem 2) 0
    ∗ tk (pk c 2) (qsem 3) 0
    ∗ tk (pk c 3) (qsem 0) 0
    ∗ tk (pk c 3) (qsem 1) 0
    ∗ pos c 0
    ∗ pos c (xsem 0)
    ∗ pos c (xsem 1)
    ∗ pos c (xsem 2)
    ∗ pos c (rsem 0)
    ∗ pos c (rsem 1)
    ∗ pos c (rsem 2)
    ∗ pos c (psem 0)
    ∗ pos c (psem 1)
    ∗ pos c (psem 2)
    ∗ pos c (psem 3)
    ∗ pos c (psem 4)
    ∗ pos c (psem 5)
    ∗ pos c (qsem 0)
    ∗ pos c (qsem 1)
    ∗ pos c (qsem 2)
    ∗ pos c (qsem 3)
    ∗ pos c (qsem 4)
    ∗ pos c (qsem 5)
    ∗ cr c 0 3
    ∗ cr c (rsem 0) NX
    ∗ cr c (rsem 1) NX
    ∗ cr c (rsem 2) NX
    ∗ cr c (qsem 0) NP
    ∗ cr c (qsem 1) NP
    ∗ cr c (qsem 2) NP
    ∗ cr c (qsem 3) NP
    ∗ cr c (qsem 4) NP
    ∗ cr c (qsem 5) NP)
/-- What it leaves: no debt and every semaphore back at zero. -/
def bodyDone (c : Dev nD) : sProp 𝕄 :=
  iprop(ow c 0
    ∗ sv c 0
    ∗ sv c (xsem 0)
    ∗ sv c (xsem 1)
    ∗ sv c (xsem 2)
    ∗ sv c (rsem 0)
    ∗ sv c (rsem 1)
    ∗ sv c (rsem 2)
    ∗ sv c (psem 0)
    ∗ sv c (psem 1)
    ∗ sv c (psem 2)
    ∗ sv c (psem 3)
    ∗ sv c (psem 4)
    ∗ sv c (psem 5)
    ∗ sv c (qsem 0)
    ∗ sv c (qsem 1)
    ∗ sv c (qsem 2)
    ∗ sv c (qsem 3)
    ∗ sv c (qsem 4)
    ∗ sv c (qsem 5))
/-- The buffers it takes. -/
def bodyIn (c : Dev nD) : sProp 𝕄 :=
  iprop(whPt c cc0_stg0_0 (I c).x
    ∗ whPt c cc0_stg1_0 (I c).wq
    ∗ whPt c cc0_stg2_0 (I c).wo
    ∗ whPt c cc0_stg3_0 (I c).wk
    ∗ whPt c cc0_stg4_0 (I c).wv
    ∗ (∃ f, whPt c cc0_stg5_0 f)
    ∗ (∃ f, whPt c cc0_scratch0 f)
    ∗ (∃ f, whPt c cc0_scratch1 f)
    ∗ (∃ f, whPt c cc0_scratch2 f)
    ∗ (∃ f, whPt c cc0_scratch3 f)
    ∗ (∃ f, whPt c cc0_scratch4 f))
/-- The buffers it leaves. -/
def bodyOut (c : Dev nD) : sProp 𝕄 :=
  iprop(whPt c cc0_stg0_0 (I c).x
    ∗ whPt c cc0_stg1_0 (I c).wq
    ∗ whPt c cc0_stg2_0 (I c).wo
    ∗ whPt c cc0_stg3_0 (I c).wk
    ∗ whPt c cc0_stg4_0 (I c).wv
    ∗ whPt c cc0_stg5_0 (outV I c)
    ∗ (∃ f, whPt c cc0_scratch0 f)
    ∗ (∃ f, whPt c cc0_scratch1 f)
    ∗ (∃ f, whPt c cc0_scratch2 f)
    ∗ (∃ f, whPt c cc0_scratch3 f)
    ∗ (∃ f, whPt c cc0_scratch4 f))

/-- The body of device `c`: the result block holds its own partial and the three that come in. -/
theorem sound_body (c : Dev nD) :
    iprop(recs I K ∗ levAts L lv ∗ bodyOwes c ∗ bodyIn I c)
      ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => iprop(bodyDone c ∗ bodyOut I c)) := by
  rw [cc0_body_eq_skeleton]
  unfold cc0_body_skel bodyOwes bodyIn
  simp only [wp_bind, Prog.lift]
  iintro ⟨#HR, #HL, ⟨HO, TB0, TB1, TB2, TX0, TX1, TX2, TR2, TR1, TR0, T0, T1, T2, T3, T4, T5, U4, U5, U2, U3, U0, U1, PA, PX0, PX1, PX2, PR0, PR1, PR2, PP0, PP1, PP2, PP3, PP4, PP5, PQ0, PQ1, PQ2, PQ3, PQ4, PQ5, C, CR0, CR1, CR2, CQ0, CQ1, CQ2, CQ3, CQ4, CQ5⟩, X0, X1, X2, X3, X4, HU, M0, M1, M2, M3, M4⟩
  icases M0 with ⟨%fM0, M0⟩
  icases M1 with ⟨%fM1, M1⟩
  icases M2 with ⟨%fM2, M2⟩
  icases M3 with ⟨%fM3, M3⟩
  ihave M0 := (xg_cut c fM0) $$ M0
  icases M0 with ⟨XO, Z1, Z2, Z3⟩
  ihave M1 := (pin_cut c fM1) $$ M1
  icases M1 with ⟨G0, G1, G2⟩
  ihave G0 := (pin_halves c 0 fM1) $$ G0
  icases G0 with ⟨I0, I1⟩
  ihave G1 := (pin_halves c 1 fM1) $$ G1
  icases G1 with ⟨I2, I3⟩
  ihave G2 := (pin_halves c 2 fM1) $$ G2
  icases G2 with ⟨I4, I5⟩
  ihave M2 := (pout_cut c fM2) $$ M2
  icases M2 with ⟨G0, G1, G2⟩
  ihave G0 := (pout_halves c 0 fM2) $$ G0
  icases G0 with ⟨O0, O1⟩
  ihave G1 := (pout_halves c 1 fM2) $$ G1
  icases G1 with ⟨O2, O3⟩
  ihave G2 := (pout_halves c 2 fM2) $$ G2
  icases G2 with ⟨O4, O5⟩
  ihave M3 := (w16_cut c fM3) $$ M3
  icases M3 with ⟨W0, W1, W2⟩
  ihave B0 := (bar_pay0 c) $$ [Z1 I0 I1]
  · isplitl [Z1]; · iexists fM0; iexact Z1
    isplitl [I0]; · iexists fM1; iexact I0
    iexists fM1; iexact I1
  ihave B1 := (bar_pay1 c) $$ [Z2 I2 I3]
  · isplitl [Z2]; · iexists fM0; iexact Z2
    isplitl [I2]; · iexists fM1; iexact I2
    iexists fM1; iexact I3
  ihave B2 := (bar_pay2 c) $$ [Z3 I4 I5]
  · isplitl [Z3]; · iexists fM0; iexact Z3
    isplitl [I4]; · iexists fM1; iexact I4
    iexists fM1; iexact I5
  iapply (part1_spec I K c) $$ [HO TB0 TB1 TB2 B0 B1 B2 PA C X0 XO]
  · isplitr; · iexact HR
    isplitr; · iexact HL
    isplitl [HO]; · iexact HO
    isplitl [TB0]; · iexact TB0
    isplitl [TB1]; · iexact TB1
    isplitl [TB2]; · iexact TB2
    isplitl [B0]; · iexact B0
    isplitl [B1]; · iexact B1
    isplitl [B2]; · iexact B2
    isplitl [PA]; · iexact PA
    isplitl [C]; · iexact C
    isplitl [X0]; · iexact X0
    iexists fM0; iexact XO
  iintro ⟨HO, S, D0, D1, D2, X0, XO⟩
  try dsimp only
  ihave D0 := (bar_got0 c) $$ D0
  icases D0 with ⟨E3, F0, F1⟩
  ihave D1 := (bar_got1 c) $$ D1
  icases D1 with ⟨E2, F2, F3⟩
  ihave D2 := (bar_got2 c) $$ D2
  icases D2 with ⟨E1, F4, F5⟩
  ihave XO := (own_cut c _ _) $$ XO
  icases XO with ⟨Q0, Q1, Q2⟩
  iapply (part2_spec I K c _) $$ [HO Q0 Q2 E1 E3 TX0 TR2 TX2 TR0 X1 X3 X4 W0 W1 W2]
  · isplitr; · iexact HR
    isplitr; · iexact HL
    isplitl [HO]; · iexact HO
    isplitl [Q0]; · iexact Q0
    isplitl [Q2]; · iexact Q2
    isplitl [E1]; · iexact E1
    isplitl [E3]; · iexact E3
    isplitl [TX0]; · iexact TX0
    isplitl [TR2]; · iexact TR2
    isplitl [TX2]; · iexact TX2
    isplitl [TR0]; · iexact TR0
    isplitl [X1]; · iexact X1
    isplitl [X3]; · iexact X3
    isplitl [X4]; · iexact X4
    isplitl [W0]; · iexists fM3; iexact W0
    isplitl [W1]; · iexists fM3; iexact W1
    iexists fM3; iexact W2
  iintro ⟨HO, CX0, CX2, X1, X3, X4, W0, W1, W2⟩
  try dsimp only
  iapply (part3_spec I K c _) $$ [X2 M4 Q1 W0 W1 W2]
  · isplitr; · iexact HR
    isplitr; · iexact HL
    isplitl [X2]; · iexact X2
    isplitl [M4]; · iexact M4
    isplitl [Q1]; · iexact Q1
    isplitl [W0]; · iexact W0
    isplitl [W1]; · iexact W1
    iexact W2
  iintro ⟨X2, WO, Q1, W0, W1, W2⟩
  try dsimp only
  iapply (part4_spec c _ _ _ _ _)
  try dsimp only
  iapply (part5_spec c _ _ _ _ _)
  try dsimp only
  iapply (part6_spec I K c _ _ _ _ _ _ _ _ _ _ ) $$ [HO WO HU PX0 CX0 PX2 CX2]
  · isplitr; · iexact HR
    isplitr; · iexact HL
    isplitl [HO]; · iexact HO
    isplitl [WO]; · iexact WO
    isplitl [HU]; · iexact HU
    isplitl [PX0]; · iexact PX0
    isplitl [CX0]; · iexact CX0
    isplitl [PX2]; · iexact PX2
    iexact CX2
  iintro ⟨HO, WO, HU, SX0, SX2, Q0, Q2⟩
  try dsimp only
  iapply (part7_spec I K c _) $$ [HO Q1 E2 TX1 TR1 PR0 CR0 W0 W1 W2]
  · isplitr; · iexact HR
    isplitr; · iexact HL
    isplitl [HO]; · iexact HO
    isplitl [Q1]; · iexact Q1
    isplitl [E2]; · iexact E2
    isplitl [TX1]; · iexact TX1
    isplitl [TR1]; · iexact TR1
    isplitl [PR0]; · iexact PR0
    isplitl [CR0]; · iexact CR0
    isplitl [W0]; · iexact W0
    isplitl [W1]; · iexact W1
    iexact W2
  iintro ⟨HO, CX1, SR0, Y0, W0, W1, W2⟩
  try dsimp only
  iapply (part8_spec c _ _ _ _ _)
  try dsimp only
  iapply (part9_spec c _ _ _ _ _)
  try dsimp only
  iapply (part10_spec I K c _ _ _ _ _ _ _ _ _ _ _ _ rfl) $$ [WO O0]
  · isplitr; · iexact HR
    isplitr; · iexact HL
    isplitl [WO]; · iexact WO
    iexists fM2; iexact O0
  iintro ⟨WO, O0⟩
  try dsimp only
  iapply (part11_spec I K c _ _ _ rfl) $$ [HO O0 O1 F4 F5 T0 U4 T1 U5 WO PR2 CR2]
  · isplitr; · iexact HR
    isplitr; · iexact HL
    isplitl [HO]; · iexact HO
    isplitl [O0]; · iexact O0
    isplitl [O1]; · iexists fM2; iexact O1
    isplitl [F4]; · iexact F4
    isplitl [F5]; · iexact F5
    isplitl [T0]; · iexact T0
    isplitl [U4]; · iexact U4
    isplitl [T1]; · iexact T1
    isplitl [U5]; · iexact U5
    isplitl [WO]; · iexact WO
    isplitl [PR2]; · iexact PR2
    iexact CR2
  iintro ⟨HO, CP0, CP1, WO, SR2, Y2⟩
  try dsimp only
  iapply (part12_spec I K c) $$ [Y2 W0 W1 W2]
  · isplitr; · iexact HR
    isplitr; · iexact HL
    isplitl [Y2]; · iexact Y2
    isplitl [W0]; · iexact W0
    isplitl [W1]; · iexact W1
    iexact W2
  iintro ⟨Y2, W0, W1, W2⟩
  try dsimp only
  iapply (part13_spec c _ _ _ _ _)
  try dsimp only
  iapply (part14_spec c _ _ _ _ _)
  try dsimp only
  iapply (part15_spec I K c _ _ _ _ _ _ _ _ _ _ rfl rfl) $$ [HO WO O4 O5 F0 T4 U0]
  · isplitr; · iexact HR
    isplitr; · iexact HL
    isplitl [HO]; · iexact HO
    isplitl [WO]; · iexact WO
    isplitl [O4]; · iexists fM2; iexact O4
    isplitl [O5]; · iexists fM2; iexact O5
    isplitl [F0]; · iexact F0
    isplitl [T4]; · iexact T4
    iexact U0
  iintro ⟨HO, WO, O5, CP4⟩
  try dsimp only
  iapply (part16_spec I K c _) $$ [HO O5 F1 T5 U1 PR1 CR1 W0 W1 W2]
  · isplitr; · iexact HR
    isplitr; · iexact HL
    isplitl [HO]; · iexact HO
    isplitl [O5]; · iexact O5
    isplitl [F1]; · iexact F1
    isplitl [T5]; · iexact T5
    isplitl [U1]; · iexact U1
    isplitl [PR1]; · iexact PR1
    isplitl [CR1]; · iexact CR1
    isplitl [W0]; · iexact W0
    isplitl [W1]; · iexact W1
    iexact W2
  iintro ⟨HO, CP5, SR1, Y1, W0, W1, W2⟩
  try dsimp only
  iapply (part17_spec c _ _ _ _ _ _ _ )
  try dsimp only
  iapply (part18_spec c _ _ _ _ _ _ _ )
  try dsimp only
  iapply (part19_spec I K c _ _ _ _ _ _ _ _ _ _ _ _ _ _ rfl) $$ [WO O2]
  · isplitr; · iexact HR
    isplitr; · iexact HL
    isplitl [WO]; · iexact WO
    iexists fM2; iexact O2
  iintro ⟨WO, O2⟩
  try dsimp only
  iapply (part20_spec I K c _ _ _ rfl) $$ [HO O2 O3 F2 F3 T2 U2 T3 U3 WO]
  · isplitr; · iexact HR
    isplitr; · iexact HL
    isplitl [HO]; · iexact HO
    isplitl [O2]; · iexact O2
    isplitl [O3]; · iexists fM2; iexact O3
    isplitl [F2]; · iexact F2
    isplitl [F3]; · iexact F3
    isplitl [T2]; · iexact T2
    isplitl [U2]; · iexact U2
    isplitl [T3]; · iexact T3
    isplitl [U3]; · iexact U3
    iexact WO
  iintro ⟨HO, CP2, CP3, WO⟩
  try dsimp only
  iapply (part21_spec I K c _ _) $$ [HO PQ4 CQ4 PQ5 CQ5 HU]
  · isplitr; · iexact HR
    isplitr; · iexact HL
    isplitl [HO]; · iexact HO
    isplitl [PQ4]; · iexact PQ4
    isplitl [CQ4]; · iexact CQ4
    isplitl [PQ5]; · iexact PQ5
    isplitl [CQ5]; · iexact CQ5
    iexact HU
  iintro ⟨HO, SQ4, SQ5, J2, HU⟩
  try dsimp only
  iapply (part22_spec I K c _ _) $$ [HO PQ0 CQ0 PQ1 CQ1 PQ2 CQ2 HU]
  · isplitr; · iexact HR
    isplitr; · iexact HL
    isplitl [HO]; · iexact HO
    isplitl [PQ0]; · iexact PQ0
    isplitl [CQ0]; · iexact CQ0
    isplitl [PQ1]; · iexact PQ1
    isplitl [CQ1]; · iexact CQ1
    isplitl [PQ2]; · iexact PQ2
    isplitl [CQ2]; · iexact CQ2
    iexact HU
  iintro ⟨HO, SQ0, SQ1, SQ2, J0, I2, HU⟩
  try dsimp only
  iapply (part23_spec I K c _ _) $$ [HO PQ3 CQ3 I2 HU PX1 CX1]
  · isplitr; · iexact HR
    isplitr; · iexact HL
    isplitl [HO]; · iexact HO
    isplitl [PQ3]; · iexact PQ3
    isplitl [CQ3]; · iexact CQ3
    isplitl [I2]; · iexact I2
    isplitl [HU]; · iexact HU
    isplitl [PX1]; · iexact PX1
    iexact CX1
  iintro ⟨HO, SQ3, J1, HU, SX1, Q1⟩
  try dsimp only
  iapply (part24_spec I K c) $$ [HO PP0 CP0 PP1 CP1 PP4 CP4 PP5 CP5]
  · isplitr; · iexact HR
    isplitr; · iexact HL
    isplitl [HO]; · iexact HO
    isplitl [PP0]; · iexact PP0
    isplitl [CP0]; · iexact CP0
    isplitl [PP1]; · iexact PP1
    isplitl [CP1]; · iexact CP1
    isplitl [PP4]; · iexact PP4
    isplitl [CP4]; · iexact CP4
    isplitl [PP5]; · iexact PP5
    iexact CP5
  iintro ⟨HO, SP0, O0, SP1, O1, SP4, O4, SP5, O5⟩
  try dsimp only
  iapply (op_wait_ps I K c 2 1 0 rfl rfl 0 rfl NP_eq.symm) $$ [HO PP2 CP2]
  · isplitr; · iexact HR
    isplitr; · iexact HL
    isplitl [HO]; · iexact HO
    isplitl [PP2]; · iexact PP2
    iexact CP2
  iintro ⟨HO, SP2, O2⟩
  iapply (wp_done c _)
  try dsimp only
  iapply (op_wait_ps I K c 3 1 1 rfl rfl 0 rfl NP_eq.symm) $$ [HO PP3 CP3]
  · isplitr; · iexact HR
    isplitr; · iexact HL
    isplitl [HO]; · iexact HO
    isplitl [PP3]; · iexact PP3
    iexact CP3
  iintro ⟨HO, SP3, O3⟩
  iapply (wp_done c _)
  try dsimp only
  iapply (wp_done c _)
  try dsimp only
  unfold bodyDone bodyOut outV ownOut Cert.Mha.own
  isplitl [HO S SX0 SX1 SX2 SR0 SR1 SR2 SP0 SP1 SP2 SP3 SP4 SP5 SQ0 SQ1 SQ2 SQ3 SQ4 SQ5]
  · isplitl [HO]; · iexact HO
    isplitl [S]; · iexact S
    isplitl [SX0]; · iexact SX0
    isplitl [SX1]; · iexact SX1
    isplitl [SX2]; · iexact SX2
    isplitl [SR0]; · iexact SR0
    isplitl [SR1]; · iexact SR1
    isplitl [SR2]; · iexact SR2
    isplitl [SP0]; · iexact SP0
    isplitl [SP1]; · iexact SP1
    isplitl [SP2]; · iexact SP2
    isplitl [SP3]; · iexact SP3
    isplitl [SP4]; · iexact SP4
    isplitl [SP5]; · iexact SP5
    isplitl [SQ0]; · iexact SQ0
    isplitl [SQ1]; · iexact SQ1
    isplitl [SQ2]; · iexact SQ2
    isplitl [SQ3]; · iexact SQ3
    isplitl [SQ4]; · iexact SQ4
    iexact SQ5
  isplitl [X0]; · iexact X0
  isplitl [X1]; · iexact X1
  isplitl [X2]; · iexact X2
  isplitl [X3]; · iexact X3
  isplitl [X4]; · iexact X4
  isplitl [HU]; · iexact HU
  isplitl [Q0 Q1 Q2 Y0 Y1 Y2]
  · iexists (xgB I)
    iapply (xg_paste c (xgB I))
    isplitl [Q0 Q1 Q2]
    · iapply (own_paste c _ (xgB I))
      isplitl [Q0]; · iexact Q0
      isplitl [Q1]; · iexact Q1
      iexact Q2
    isplitl [Y0]; · iexact Y0
    isplitl [Y1]; · iexact Y1
    iexact Y2
  isplitl [J0 J1 J2]
  · iexists (pinB I c)
    iapply (pin_paste c (pinB I c))
    isplitl [J0]; · iexact J0
    isplitl [J1]; · iexact J1
    iexact J2
  isplitl [O0 O1 O2 O3 O4 O5]
  · iexists (poutB I c)
    iapply (pout_paste c (poutB I c))
    isplitl [O0 O1]
    · iapply (pout_whole c 0 (poutB I c))
      isplitl [O0]; · iexact O0
      iexact O1
    isplitl [O2 O3]
    · iapply (pout_whole c 1 (poutB I c))
      isplitl [O2]; · iexact O2
      iexact O3
    iapply (pout_whole c 2 (poutB I c))
    isplitl [O4]; · iexact O4
    iexact O5
  isplitl [W0 W1 W2]
  · iexists (w16B I c)
    iapply (w16_paste c (w16B I c))
    isplitl [W0]; · iexact W0
    isplitl [W1]; · iexact W1
    iexact W2
  iexists (aO I c)
  iexact WO

end Cert.Mha
end
-- ==== Proof.Launch.lean ====
/-
# The run

From any memory with zero counters every fair run of the mesh ends, with each device's result block at the value the
body computes, the arguments as they were and every counter back at zero. Here the launch is set up: the cells are
allocated for all devices at once, the tokens dealt to the devices that pay, and the credit of each device taken from
what the devices owe.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.CollectiveSegs

@[expose] public section

set_option maxRecDepth 8000

noncomputable section

namespace Cert.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at launch: memory `m`, every counter at zero. -/
def s₀ : MemSt nD τ sig (Elt F) := ⟨m, fun _ => 0, ρ⟩

/-- The five argument blocks of each device. -/
def ins (c : Dev nD) : Ins F := ⟨iblk m c 0 t0_0, iblk m c 1 t0_0, iblk m c 3 t0_0, iblk m c 4 t0_0, iblk m c 2 t0_0⟩

/-- The transfer semaphores, the kernel's own. -/
abbrev osem : Fin 18 → SemLoc sig := fun k => .dma ⟨6 + k.val, by show _ < 24; omega⟩

/-- The shift of the mesh by `k` places. -/
def rot (k : Fin 4) : Dev nD ≃ Dev nD where
  toFun c := pk c k
  invFun c := pk c (-k)
  left_inv := (by decide : ∀ (k : Fin 4) (c : Dev nD), pk (pk c k) (-k) = c) k
  right_inv := (by decide : ∀ (k : Fin 4) (c : Dev nD), pk (pk c (-k)) k = c) k

/-! ## What a device starts from and ends with -/

/-- The tokens of the duties a device pays. -/
def payToks (c : Dev nD) : sProp 𝕄 :=
  iprop(tk (pk c 1) 0 0
    ∗ tk (pk c 2) 0 1
    ∗ tk (pk c 3) 0 2
    ∗ tk c (xsem 0) 0
    ∗ tk c (xsem 1) 0
    ∗ tk c (xsem 2) 0
    ∗ tk (pk c 1) (rsem 2) 0
    ∗ tk (pk c 2) (rsem 1) 0
    ∗ tk (pk c 3) (rsem 0) 0
    ∗ tk c (psem 0) 0
    ∗ tk c (psem 1) 0
    ∗ tk c (psem 2) 0
    ∗ tk c (psem 3) 0
    ∗ tk c (psem 4) 0
    ∗ tk c (psem 5) 0
    ∗ tk (pk c 1) (qsem 4) 0
    ∗ tk (pk c 1) (qsem 5) 0
    ∗ tk (pk c 2) (qsem 2) 0
    ∗ tk (pk c 2) (qsem 3) 0
    ∗ tk (pk c 3) (qsem 0) 0
    ∗ tk (pk c 3) (qsem 1) 0)
/-- The tokens of its own cells' duties. -/
def ownToks (c : Dev nD) : sProp 𝕄 :=
  iprop(tk c 0 0
    ∗ tk c 0 1
    ∗ tk c 0 2
    ∗ tk c (xsem 0) 0
    ∗ tk c (xsem 1) 0
    ∗ tk c (xsem 2) 0
    ∗ tk c (rsem 2) 0
    ∗ tk c (rsem 1) 0
    ∗ tk c (rsem 0) 0
    ∗ tk c (psem 0) 0
    ∗ tk c (psem 1) 0
    ∗ tk c (psem 2) 0
    ∗ tk c (psem 3) 0
    ∗ tk c (psem 4) 0
    ∗ tk c (psem 5) 0
    ∗ tk c (qsem 4) 0
    ∗ tk c (qsem 5) 0
    ∗ tk c (qsem 2) 0
    ∗ tk c (qsem 3) 0
    ∗ tk c (qsem 0) 0
    ∗ tk c (qsem 1) 0)
/-- Its places at the start of its own cells. -/
def places (c : Dev nD) : sProp 𝕄 :=
  iprop(pos c 0
    ∗ pos c (xsem 0)
    ∗ pos c (xsem 1)
    ∗ pos c (xsem 2)
    ∗ pos c (rsem 0)
    ∗ pos c (rsem 1)
    ∗ pos c (rsem 2)
    ∗ pos c (psem 0)
    ∗ pos c (psem 1)
    ∗ pos c (psem 2)
    ∗ pos c (psem 3)
    ∗ pos c (psem 4)
    ∗ pos c (psem 5)
    ∗ pos c (qsem 0)
    ∗ pos c (qsem 1)
    ∗ pos c (qsem 2)
    ∗ pos c (qsem 3)
    ∗ pos c (qsem 4)
    ∗ pos c (qsem 5))
/-- Its credits. -/
def credits (c : Dev nD) : sProp 𝕄 :=
  iprop(cr c 0 3
    ∗ cr c (rsem 0) NX
    ∗ cr c (rsem 1) NX
    ∗ cr c (rsem 2) NX
    ∗ cr c (qsem 0) NP
    ∗ cr c (qsem 1) NP
    ∗ cr c (qsem 2) NP
    ∗ cr c (qsem 3) NP
    ∗ cr c (qsem 4) NP
    ∗ cr c (qsem 5) NP)
/-- Its semaphores, back at zero. -/
def zeros (c : Dev nD) : sProp 𝕄 :=
  iprop(sv c 0
    ∗ sv c (xsem 0)
    ∗ sv c (xsem 1)
    ∗ sv c (xsem 2)
    ∗ sv c (rsem 0)
    ∗ sv c (rsem 1)
    ∗ sv c (rsem 2)
    ∗ sv c (psem 0)
    ∗ sv c (psem 1)
    ∗ sv c (psem 2)
    ∗ sv c (psem 3)
    ∗ sv c (psem 4)
    ∗ sv c (psem 5)
    ∗ sv c (qsem 0)
    ∗ sv c (qsem 1)
    ∗ sv c (qsem 2)
    ∗ sv c (qsem 3)
    ∗ sv c (qsem 4)
    ∗ sv c (qsem 5))
/-- The five scratch buffers at some contents. -/
def scratch (c : Dev nD) : sProp 𝕄 :=
  iprop((∃ f, whPt c cc0_scratch0 f) ∗ (∃ f, whPt c cc0_scratch1 f) ∗ (∃ f, whPt c cc0_scratch2 f) ∗ (∃ f, whPt c cc0_scratch3 f) ∗ (∃ f, whPt c cc0_scratch4 f))

/-- The records under some names, with a device's places and tokens. -/
def dealt (c : Dev nD) : sProp 𝕄 := iprop(∃ K, recs (ins m) K ∗ places c ∗ payToks c)
/-- What a device's body starts from. -/
def start (c : Dev nD) : sProp 𝕄 := iprop(dealt m c ∗ credits c ∗ levAts L lv)
def Φ₀ (c : Dev nD) : sProp 𝕄 := iprop(start m c ∗ scratch c)
def Φ₁ (c : Dev nD) : sProp 𝕄 := iprop(zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m c).x
    | ⟨1, _⟩ => (ins m c).wq
    | ⟨2, _⟩ => (ins m c).wo
    | ⟨3, _⟩ => (ins m c).wk
    | ⟨4, _⟩ => (ins m c).wv
    | ⟨5, _⟩ => outV (ins m) c
  Φ t := match t with
    | ⟨0, _⟩ => Φ₀ m c
    | ⟨_ + 1, _⟩ => Φ₁ c
  q _ := fullShare
  owed t := match t with
    | ⟨0, _⟩ => Ow c 12
    | ⟨_ + 1, _⟩ => 0

/-- A whole buffer owned at contents `X`, as the points-to with the contents named. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body obligation -/

/-- The buffers and resources a device's body takes, from the launch's parts. -/
theorem owes_intro (c : Dev nD) : iprop(ow c 12 ∗ places c ∗ payToks c ∗ credits c) ⊢ bodyOwes (F := F) c := by
  unfold bodyOwes places payToks credits
  iintro ⟨HO, ⟨P0, P1, P2, P3, P4, P5, P6, P7, P8, P9, P10, P11, P12, P13, P14, P15, P16, P17, P18⟩, ⟨TB0, TB1, TB2, TX0, TX1, TX2, TR2, TR1, TR0, T0, T1, T2, T3, T4, T5, U4, U5, U2, U3, U0, U1⟩, ⟨C, CR0, CR1, CR2, CQ0, CQ1, CQ2, CQ3, CQ4, CQ5⟩⟩
  isplitl [HO]; · iexact HO
  isplitl [TB0]; · iexact TB0
  isplitl [TB1]; · iexact TB1
  isplitl [TB2]; · iexact TB2
  isplitl [TX0]; · iexact TX0
  isplitl [TX1]; · iexact TX1
  isplitl [TX2]; · iexact TX2
  isplitl [TR2]; · iexact TR2
  isplitl [TR1]; · iexact TR1
  isplitl [TR0]; · iexact TR0
  isplitl [T0]; · iexact T0
  isplitl [T1]; · iexact T1
  isplitl [T2]; · iexact T2
  isplitl [T3]; · iexact T3
  isplitl [T4]; · iexact T4
  isplitl [T5]; · iexact T5
  isplitl [U4]; · iexact U4
  isplitl [U5]; · iexact U5
  isplitl [U2]; · iexact U2
  isplitl [U3]; · iexact U3
  isplitl [U0]; · iexact U0
  isplitl [U1]; · iexact U1
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  isplitl [P15]; · iexact P15
  isplitl [P16]; · iexact P16
  isplitl [P17]; · iexact P17
  isplitl [P18]; · iexact P18
  isplitl [C]; · iexact C
  isplitl [CR0]; · iexact CR0
  isplitl [CR1]; · iexact CR1
  isplitl [CR2]; · iexact CR2
  isplitl [CQ0]; · iexact CQ0
  isplitl [CQ1]; · iexact CQ1
  isplitl [CQ2]; · iexact CQ2
  isplitl [CQ3]; · iexact CQ3
  isplitl [CQ4]; · iexact CQ4
  iexact CQ5

/-- What it leaves, as the launch's parts. -/
theorem done_elim (c : Dev nD) : bodyDone (F := F) c ⊢ iprop(ow c 0 ∗ zeros c) := by
  unfold bodyDone zeros
  exact Entails.refl _

theorem before_x (c : Dev nD) (d) : (dats m ρ 0 c).before (0 : Fin 6) t0_0 d = (ins m c).x := by
  unfold Dat.before; rw [if_pos (fetch0_0 t0_0)]; rfl
theorem before_wq (c : Dev nD) (d) : (dats m ρ 0 c).before (1 : Fin 6) t0_0 d = (ins m c).wq := by
  unfold Dat.before; rw [if_pos (fetch0_1 t0_0)]; rfl
theorem before_wo (c : Dev nD) (d) : (dats m ρ 0 c).before (2 : Fin 6) t0_0 d = (ins m c).wo := by
  unfold Dat.before; rw [if_pos (fetch0_2 t0_0)]; rfl
theorem before_wk (c : Dev nD) (d) : (dats m ρ 0 c).before (3 : Fin 6) t0_0 d = (ins m c).wk := by
  unfold Dat.before; rw [if_pos (fetch0_3 t0_0)]; rfl
theorem before_wv (c : Dev nD) (d) : (dats m ρ 0 c).before (4 : Fin 6) t0_0 d = (ins m c).wv := by
  unfold Dat.before; rw [if_pos (fetch0_4 t0_0)]; rfl

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 4000 in
def bodyPost (c : Dev nD) : sProp 𝕄 :=
  iprop(Φ₁ c ∗ (dats m ρ 0 c).owesAt () t0_0.succ ∗ stg c cc0_stg0_0 (ins m c).x ∗ stg c cc0_stg1_0 (ins m c).wq
    ∗ stg c cc0_stg2_0 (ins m c).wo ∗ stg c cc0_stg3_0 (ins m c).wk ∗ stg c cc0_stg4_0 (ins m c).wv ∗ stg c cc0_stg5_0 (outV (ins m) c))

theorem pre_elim (c : Dev nD) : bodyPre m ρ c ⊢ iprop(∃ K, recs (ins m) K ∗ levAts L lv ∗ bodyOwes c ∗ bodyIn (ins m) c) := by
  unfold bodyPre Φ₀ start dealt scratch
  iintro ⟨⟨⟨⟨%K, HR, HP, HT⟩, HC, HL⟩, M0, M1, M2, M3, M4⟩, Ho, ⟨%d0, %g0, %h0, X0⟩, ⟨%d1, %g1, %h1, X1⟩, ⟨%d2, %g2, %h2, X2⟩, ⟨%d3, %g3, %h3, X3⟩, ⟨%d4, %g4, %h4, X4⟩, ⟨%d5, %g5, %h5, X5⟩⟩
  have e0 : g0 = (ins m c).x := h0.trans (before_x m ρ c d0)
  have e1 : g1 = (ins m c).wq := h1.trans (before_wq m ρ c d1)
  have e2 : g2 = (ins m c).wo := h2.trans (before_wo m ρ c d2)
  have e3 : g3 = (ins m c).wk := h3.trans (before_wk m ρ c d3)
  have e4 : g4 = (ins m c).wv := h4.trans (before_wv m ρ c d4)
  subst e0 e1 e2 e3 e4
  unfold Dat.owesAt Pipeline.owesWithin
  icases Ho with ⟨%W, %hW, HO⟩
  iexists K
  isplitl [HR]; · iexact HR
  isplitl [HL]; · iexact HL
  isplitl [HO HP HT HC]
  · iapply (owes_intro (F := F) c)
    isplitl [HO]
    · unfold ow; iexists W; iexact HO
    isplitl [HP]; · iexact HP
    isplitl [HT]; · iexact HT
    iexact HC
  unfold bodyIn
  isplitl [X0]; · iexact X0
  isplitl [X1]; · iexact X1
  isplitl [X2]; · iexact X2
  isplitl [X3]; · iexact X3
  isplitl [X4]; · iexact X4
  isplitl [X5]; · iexists g5; iexact X5
  isplitl [M0]; · iexact M0
  isplitl [M1]; · iexact M1
  isplitl [M2]; · iexact M2
  isplitl [M3]; · iexact M3
  iexact M4

theorem post_intro (c : Dev nD) : iprop(bodyDone c ∗ bodyOut (ins m) c) ⊢ bodyPost m ρ c := by
  unfold bodyPost bodyOut Φ₁ scratch Dat.owesAt Pipeline.owesWithin
  rw [show (dats m ρ 0 c).owed t0_0.succ = 0 from rfl]
  iintro ⟨HD, X0, X1, X2, X3, X4, X5, HM⟩
  ihave HD := (done_elim (F := F) c) $$ HD
  icases HD with ⟨HO, HZ⟩
  unfold ow
  icases HO with ⟨%W, HO⟩
  isplitl [HZ HM]
  · isplitl [HZ]; · iexact HZ
    iexact HM
  isplitl [HO]
  · iexists W
    isplitr; · ipureintro; exact fun _ _ => Or.inl trivial
    iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  isplitl [X3]
  · iexists _; isplitr; · (ipureintro; rfl)
    iexact X3
  isplitl [X4]
  · iexists _; isplitr; · (ipureintro; rfl)
    iexact X4
  iexists _; isplitr; · (ipureintro; rfl)
  iexact X5

theorem body_run (c : Dev nD) : bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => bodyPost m ρ c) := by
  refine (pre_elim m ρ c).trans ?_
  have h (K : Dev nD × Fin 19 → ℕ) := (sound_body (ins m) K c).trans ((wp _ _ _ _).mono fun _ => post_intro m ρ c)
  iintro ⟨%K, H⟩
  iapply (h K)
  iexact H

set_option maxRecDepth 4000 in
/-- The library's body obligation on core `c`. -/
theorem body_obligation (c : Dev nD) : BodyObligation (dats (F := F) m ρ 0 c) (defs₀ (F := F)) 𝒱₀ () Set.univ := fun t => by
  obtain rfl := fin_N0 t
  rw [bigSep_W0, bigSep_W0]
  simp only [owns_buf]
  exact body_run m ρ c

/-! ## The launch element and the global step -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 19 → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The cell and the duty of a device's own token number `j`. -/
def kOf : Fin 21 → Fin 19 := ![0, 0, 0, 1, 2, 3, 6, 5, 4, 7, 8, 9, 10, 11, 12, 17, 18, 15, 16, 13, 14]
def dOf : Fin 21 → Fin 3 := ![0, 1, 2, 0, 0, 0, 0, 0, 0, 0, 0, 0, 0, 0, 0, 0, 0, 0, 0, 0, 0]
theorem kdOf_injective : Function.Injective (fun j : Fin 21 => (kOf j, dOf j)) := by decide

abbrev tokOf (cj : Dev nD × Fin 21) : GSem nD τ sig × ℕ × Fin 3 := (kcell (cj.1, kOf cj.2), 0, dOf cj.2)
theorem tokOf_injective : Function.Injective (tokOf : Dev nD × Fin 21 → GSem nD τ sig × ℕ × Fin 3) := by
  rintro ⟨c, j⟩ ⟨c', j'⟩ h
  have h0 := kcell_injective (congrArg Prod.fst h)
  have h1 : c = c' := congrArg Prod.fst h0
  have h2 : j = j' := kdOf_injective (Prod.ext (congrArg Prod.snd h0) (congrArg (fun x : GSem nD τ sig × ℕ × Fin 3 => x.2.2) h))
  rw [h1, h2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- What the launch element deals device `c`. -/
def G (c : Dev nD) : sProp 𝕄 :=
  iprop((bigSep Finset.univ fun k : Fin 19 => roundState ER (Rd (ins m)) (kcell (c, k)) 0)
    ∗ (bigSep Finset.univ fun k : Fin 19 => iprop(atPos ER (kcell (c, k)) 0 ∅ 0 ∗ reached ER (kcell (c, k)) 0)) ∗ ownToks c)

theorem bigSep_cells (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem bigSep_toks (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem ownToks_eq (c : Dev nD) : (bigSep Finset.univ fun j : Fin 21 => (dutyTok ER (tokOf (c, j)).1 (tokOf (c, j)).2.1 (tokOf (c, j)).2.2 : sProp 𝕄)) = ownToks c := by
  rw [bigSep_toks]; rfl
theorem places_eq (c : Dev nD) : (bigSep Finset.univ fun k : Fin 19 => (atPos ER (kcell (c, k)) 0 ∅ 0 : sProp 𝕄)) = places c := by
  rw [bigSep_cells]; rfl
theorem zeros_eq (c : Dev nD) : (bigSep Finset.univ fun k : Fin 19 => (semVal (kcell (c, k)) 0 : sProp 𝕄)) = zeros c := by
  rw [bigSep_cells]; rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 19 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => ownToks_eq c
  iintro HX
  imod (Rounds.fund ER (Rd (ins m)) allCells allToks) $$ HX with ⟨Hst, Hr, Hat, Htok⟩
  imodintro
  ihave Hst := (Entails.of_eq (hX fun g => roundState ER (Rd (ins m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem ownSems0_eq (c : Dev nD) : (Pipeline.ownSems0 (Ix := Unit) (Name := ℕ) (U := UU) (Lvl := ℕ) (Val := Elt F) (τ := τ) osem c : sProp 𝕄)
    = iprop(sv c (xsem 0) ∗ sv c (xsem 1) ∗ sv c (xsem 2) ∗ sv c (rsem 0) ∗ sv c (rsem 1) ∗ sv c (rsem 2) ∗ sv c (psem 0) ∗ sv c (psem 1) ∗ sv c (psem 2) ∗ sv c (psem 3) ∗ sv c (psem 4) ∗ sv c (psem 5) ∗ sv c (qsem 0) ∗ sv c (qsem 1) ∗ sv c (qsem 2) ∗ sv c (qsem 3) ∗ sv c (qsem 4) ∗ sv c (qsem 5)) := by
  rw [Pipeline.ownSems0_eq_of_list c osem [0, 1, 2, 3, 4, 5, 6, 7, 8, 9, 10, 11, 12, 13, 14, 15, 16, 17] (by decide) (by decide)]; rfl
theorem unscopedSems0_eq (c : Dev nD) : (unscopedSems0 c : sProp 𝕄) = sv c 0 := by
  unfold unscopedSems0; rw [bigSep_eq_bigSepL_of_eq [SemLoc.reg barS] (by decide) (by decide)]; rfl

/-- The own semaphores and the barrier are the nineteen cells' counters; -/
theorem zeros_intro (c : Dev nD) :
    iprop(Pipeline.ownSems0 (Ix := Unit) (Name := ℕ) (U := UU) (Lvl := ℕ) (Val := Elt F) (τ := τ) osem c ∗ unscopedSems0 c) ⊢ (zeros c : sProp 𝕄) := by
  rw [ownSems0_eq, unscopedSems0_eq]; unfold zeros
  iintro ⟨H, HB⟩
  isplitl [HB]; · iexact HB
  iexact H
/-- and back. -/
theorem zeros_elim (c : Dev nD) :
    (zeros c : sProp 𝕄) ⊢ iprop(unscopedSems0 c ∗ Pipeline.ownSems0 (Ix := Unit) (Name := ℕ) (U := UU) (Lvl := ℕ) (Val := Elt F) (τ := τ) osem c) := by
  rw [ownSems0_eq, unscopedSems0_eq]; unfold zeros
  exact Entails.refl _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (ins m)) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := ((zeros_intro (F := F) c).trans (Entails.of_eq (zeros_eq c).symm)) $$ [Hos Hus]
  · isplitl [Hos]; · iexact Hos
    iexact Hus
  imod (show iprop((bigSep Finset.univ fun k : Fin 19 => semVal (kcell (c, k)) 0) ∗ bigSep Finset.univ fun k : Fin 19 => roundState ER (Rd (ins m)) (kcell (c, k)) 0)
      ⊢ (|={Set.univ}=> bigSep Finset.univ fun k => iprop(∃ κ : ℕ, cellInv ER (Rd (ins m)) κ (kcell (c, k))) : sProp 𝕄) from by
        rw [← bigSep_sep']
        exact (bigSep_mono fun k _ => (Rounds.body_intro ER (Rd (ins m)) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- A cell's tokens, one per device, are those of the device `k` places on, one per device. -/
theorem tok_shift (k : Fin 4) (j : Fin 19) (d : Fin 3) :
    (bigSep Finset.univ fun c : Dev nD => (tk c j d : sProp 𝕄)) ⊢ bigSep Finset.univ fun c : Dev nD => (tk (pk c k) j d : sProp 𝕄) :=
  Entails.of_eq (bigSep_univ_equiv (rot k) (fun c : Dev nD => (tk c j d : sProp 𝕄)))

/-- The tokens dealt around the mesh. -/
theorem toks_around : (bigSep Finset.univ fun c : Dev nD => (ownToks c : sProp 𝕄)) ⊢ bigSep Finset.univ fun c : Dev nD => payToks c := by
  unfold ownToks payToks
  simp only [bigSep_sep']
  iintro ⟨TB0, TB1, TB2, TX0, TX1, TX2, TR2, TR1, TR0, T0, T1, T2, T3, T4, T5, U4, U5, U2, U3, U0, U1⟩
  isplitl [TB0]; · iapply (tok_shift 1 0 0); iexact TB0
  isplitl [TB1]; · iapply (tok_shift 2 0 1); iexact TB1
  isplitl [TB2]; · iapply (tok_shift 3 0 2); iexact TB2
  isplitl [TX0]; · iexact TX0
  isplitl [TX1]; · iexact TX1
  isplitl [TX2]; · iexact TX2
  isplitl [TR2]; · iapply (tok_shift 1 (rsem 2) 0); iexact TR2
  isplitl [TR1]; · iapply (tok_shift 2 (rsem 1) 0); iexact TR1
  isplitl [TR0]; · iapply (tok_shift 3 (rsem 0) 0); iexact TR0
  isplitl [T0]; · iexact T0
  isplitl [T1]; · iexact T1
  isplitl [T2]; · iexact T2
  isplitl [T3]; · iexact T3
  isplitl [T4]; · iexact T4
  isplitl [T5]; · iexact T5
  isplitl [U4]; · iapply (tok_shift 1 (qsem 4) 0); iexact U4
  isplitl [U5]; · iapply (tok_shift 1 (qsem 5) 0); iexact U5
  isplitl [U2]; · iapply (tok_shift 2 (qsem 2) 0); iexact U2
  isplitl [U3]; · iapply (tok_shift 2 (qsem 3) 0); iexact U3
  isplitl [U0]; · iapply (tok_shift 3 (qsem 0) 0); iexact U0
  iapply (tok_shift 3 (qsem 1) 0); iexact U1

/-- A persistent resource goes to every member of a family. -/
theorem family_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt_intro (K : Dev nD × Fin 19 → ℕ) (c : Dev nD) : iprop(recs (ins m) K ∗ places c ∗ payToks c) ⊢ dealt m c := by
  unfold dealt
  iintro H; iexists K; iexact H

theorem regroup :
    (bigSep Finset.univ fun c : Dev nD => iprop((bigSep Finset.univ fun k => iprop(∃ κ : ℕ, cellInv ER (Rd (ins m)) κ (kcell (c, k))))
          ∗ (bigSep Finset.univ fun k => iprop(atPos ER (kcell (c, k)) 0 ∅ 0 ∗ reached ER (kcell (c, k)) 0)) ∗ ownToks c) : sProp 𝕄)
      ⊢ bigSep Finset.univ (dealt m) := by
  rw [bigSep_sep', bigSep_sep', ← bigSep_univ_prod (fun ck : Dev nD × Fin 19 => iprop(∃ κ : ℕ, cellInv ER (Rd (ins m)) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄)),
    bigSep_congr (s := Finset.univ) (fun (c : Dev nD) _ => places_eq (F := F) c)]
  iintro ⟨HI, ⟨Hat, #HR⟩, Htok⟩
  ihave HK := (BI.bigSep_exists_pi Finset.univ (fun (ck : Dev nD × Fin 19) (κ : ℕ) => (cellInv ER (Rd (ins m)) κ (kcell ck) : sProp 𝕄))) $$ HI
  icases HK with ⟨%K, #HI⟩
  ihave Htk := (toks_around (F := F)) $$ Htok
  iapply (family_with (R := recs (ins m) K) fun c _ => dealt_intro m K c)
  isplitr
  · unfold recs; isplitl; · iexact HI
    iexact HR
  · iapply (Entails.of_eq (bigSep_sep' Finset.univ (fun c : Dev nD => (places c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The launch credit -/

/-- The credit of one payment: each device owing `n` to cell `j` of the device `k` places on, each has `n` of its own. -/
theorem cred_shift (k : Fin 4) (j : Fin 19) (n : ℕ) (c : Dev nD) :
    (Pipeline.launchCred (fun d => tallyAt (kcell (pk d k, j)) () n) c : sProp 𝕄) ⊢ cr c j n :=
  Pipeline.launchCred_tallyAt (csem j) (rot k) (rot k).symm (rot k).apply_symm_apply (rot k).symm_apply_apply () n c

/-- One payment taken off what the devices owe. -/
theorem cred_step (r n : ℕ) (hn : 11 - r = n) (c : Dev nD) :
    (Pipeline.launchCred (fun d => Ow d (r + 1)) c : sProp 𝕄)
      ⊢ iprop(Pipeline.launchCred (fun d => Ow d r) c ∗ Pipeline.launchCred (fun d => tallyAt (dcell d n) () (damt n)) c) := by
  subst hn
  exact Entails.of_eq (Pipeline.launchCred_add (fun d => Ow d r) (fun d => tallyAt (dcell d (11 - r)) () (damt (11 - r))) c)

theorem damt_bar {n : ℕ} (h : n < 3) : damt n = 1 := if_pos h
theorem damt_x {n : ℕ} (h : ¬ n < 3) (h' : n < 6) : damt n = NX := (if_neg h).trans (if_pos h')
theorem damt_p {n : ℕ} (h : ¬ n < 3) (h' : ¬ n < 6) : damt n = NP := (if_neg h).trans (if_neg h')

/-- Three credits of one unit are one of three. -/
theorem cr_three (c : Dev nD) : iprop(cr c 0 1 ∗ cr c 0 1 ∗ cr c 0 1) ⊢ (cr c 0 3 : sProp 𝕄) := by
  iintro ⟨H1, H2, H3⟩
  iapply (Entails.of_eq (congrArg cred (tallyAt_add (kcell (c, 0)) () 1 2)))
  iapply (cred_add _ _).2
  isplitl [H1]; · iexact H1
  iapply (Entails.of_eq (congrArg cred (tallyAt_add (kcell (c, 0)) () 1 1)))
  iapply (cred_add _ _).2
  isplitl [H2]; · iexact H2
  iexact H3

theorem cred_0 (c : Dev nD) : (Pipeline.launchCred (fun d => tallyAt (dcell d 0) () (damt 0)) c : sProp 𝕄) ⊢ cr c 0 1 := by
  rw [show damt 0 = _ from damt_bar (by decide)]; exact cred_shift 1 0 1 c
theorem cred_1 (c : Dev nD) : (Pipeline.launchCred (fun d => tallyAt (dcell d 1) () (damt 1)) c : sProp 𝕄) ⊢ cr c 0 1 := by
  rw [show damt 1 = _ from damt_bar (by decide)]; exact cred_shift 2 0 1 c
theorem cred_2 (c : Dev nD) : (Pipeline.launchCred (fun d => tallyAt (dcell d 2) () (damt 2)) c : sProp 𝕄) ⊢ cr c 0 1 := by
  rw [show damt 2 = _ from damt_bar (by decide)]; exact cred_shift 3 0 1 c
theorem cred_3 (c : Dev nD) : (Pipeline.launchCred (fun d => tallyAt (dcell d 3) () (damt 3)) c : sProp 𝕄) ⊢ cr c (rsem 2) NX := by
  rw [show damt 3 = _ from damt_x (by decide) (by decide)]; exact cred_shift 1 (rsem 2) NX c
theorem cred_4 (c : Dev nD) : (Pipeline.launchCred (fun d => tallyAt (dcell d 4) () (damt 4)) c : sProp 𝕄) ⊢ cr c (rsem 0) NX := by
  rw [show damt 4 = _ from damt_x (by decide) (by decide)]; exact cred_shift 3 (rsem 0) NX c
theorem cred_5 (c : Dev nD) : (Pipeline.launchCred (fun d => tallyAt (dcell d 5) () (damt 5)) c : sProp 𝕄) ⊢ cr c (rsem 1) NX := by
  rw [show damt 5 = _ from damt_x (by decide) (by decide)]; exact cred_shift 2 (rsem 1) NX c
theorem cred_6 (c : Dev nD) : (Pipeline.launchCred (fun d => tallyAt (dcell d 6) () (damt 6)) c : sProp 𝕄) ⊢ cr c (qsem 4) NP := by
  rw [show damt 6 = _ from damt_p (by decide) (by decide)]; exact cred_shift 1 (qsem 4) NP c
theorem cred_7 (c : Dev nD) : (Pipeline.launchCred (fun d => tallyAt (dcell d 7) () (damt 7)) c : sProp 𝕄) ⊢ cr c (qsem 5) NP := by
  rw [show damt 7 = _ from damt_p (by decide) (by decide)]; exact cred_shift 1 (qsem 5) NP c
theorem cred_8 (c : Dev nD) : (Pipeline.launchCred (fun d => tallyAt (dcell d 8) () (damt 8)) c : sProp 𝕄) ⊢ cr c (qsem 0) NP := by
  rw [show damt 8 = _ from damt_p (by decide) (by decide)]; exact cred_shift 3 (qsem 0) NP c
theorem cred_9 (c : Dev nD) : (Pipeline.launchCred (fun d => tallyAt (dcell d 9) () (damt 9)) c : sProp 𝕄) ⊢ cr c (qsem 1) NP := by
  rw [show damt 9 = _ from damt_p (by decide) (by decide)]; exact cred_shift 3 (qsem 1) NP c
theorem cred_10 (c : Dev nD) : (Pipeline.launchCred (fun d => tallyAt (dcell d 10) () (damt 10)) c : sProp 𝕄) ⊢ cr c (qsem 2) NP := by
  rw [show damt 10 = _ from damt_p (by decide) (by decide)]; exact cred_shift 2 (qsem 2) NP c
theorem cred_11 (c : Dev nD) : (Pipeline.launchCred (fun d => tallyAt (dcell d 11) () (damt 11)) c : sProp 𝕄) ⊢ cr c (qsem 3) NP := by
  rw [show damt 11 = _ from damt_p (by decide) (by decide)]; exact cred_shift 2 (qsem 3) NP c

theorem creds (c : Dev nD) : (Pipeline.launchCred (fun d => Ow d 12) c : sProp 𝕄) ⊢ credits c := by
  iintro H
  ihave H := (cred_step (F := F) 11 0 rfl c) $$ H
  icases H with ⟨H, D0⟩
  ihave D0 := (cred_0 (F := F) c) $$ D0
  ihave H := (cred_step (F := F) 10 1 rfl c) $$ H
  icases H with ⟨H, D1⟩
  ihave D1 := (cred_1 (F := F) c) $$ D1
  ihave H := (cred_step (F := F) 9 2 rfl c) $$ H
  icases H with ⟨H, D2⟩
  ihave D2 := (cred_2 (F := F) c) $$ D2
  ihave H := (cred_step (F := F) 8 3 rfl c) $$ H
  icases H with ⟨H, D3⟩
  ihave D3 := (cred_3 (F := F) c) $$ D3
  ihave H := (cred_step (F := F) 7 4 rfl c) $$ H
  icases H with ⟨H, D4⟩
  ihave D4 := (cred_4 (F := F) c) $$ D4
  ihave H := (cred_step (F := F) 6 5 rfl c) $$ H
  icases H with ⟨H, D5⟩
  ihave D5 := (cred_5 (F := F) c) $$ D5
  ihave H := (cred_step (F := F) 5 6 rfl c) $$ H
  icases H with ⟨H, D6⟩
  ihave D6 := (cred_6 (F := F) c) $$ D6
  ihave H := (cred_step (F := F) 4 7 rfl c) $$ H
  icases H with ⟨H, D7⟩
  ihave D7 := (cred_7 (F := F) c) $$ D7
  ihave H := (cred_step (F := F) 3 8 rfl c) $$ H
  icases H with ⟨H, D8⟩
  ihave D8 := (cred_8 (F := F) c) $$ D8
  ihave H := (cred_step (F := F) 2 9 rfl c) $$ H
  icases H with ⟨H, D9⟩
  ihave D9 := (cred_9 (F := F) c) $$ D9
  ihave H := (cred_step (F := F) 1 10 rfl c) $$ H
  icases H with ⟨H, D10⟩
  ihave D10 := (cred_10 (F := F) c) $$ D10
  ihave H := (cred_step (F := F) 0 11 rfl c) $$ H
  icases H with ⟨H, D11⟩
  ihave D11 := (cred_11 (F := F) c) $$ D11
  iclear H
  unfold credits
  isplitl [D0 D1 D2]
  · iapply (cr_three (F := F) c)
    isplitl [D0]; · iexact D0
    isplitl [D1]; · iexact D1
    iexact D2
  isplitl [D4]; · iexact D4
  isplitl [D5]; · iexact D5
  isplitl [D3]; · iexact D3
  isplitl [D8]; · iexact D8
  isplitl [D9]; · iexact D9
  isplitl [D10]; · iexact D10
  isplitl [D11]; · iexact D11
  isplitl [D6]; · iexact D6
  iexact D7

/-! ## The side conditions -/

theorem start_intro (c : Dev nD) :
    iprop(Pipeline.unscopedRestP Pipeline.Prefetch.none cfg0.spec c (fun b => m ((c : Thread nD τ).loc b)) ∗ levAts L lv
        ∗ Pipeline.launchCred (fun d => Ow d 12) c ∗ prngReg c (ρ c) ∗ dealt m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨HZ, Hr⟩
  ihave HZ := (zeros_elim (F := F) c) $$ HZ
  icases HZ with ⟨HB, HS⟩
  isplitl [HB]; · iexact HB
  isplitl [HS]; · iexact HS
  iexact Hr

/-- A wait on a staging semaphore is below everything a device owes. -/
theorem wait_stage (c : Dev nD) (sm : SemLoc sig) (h : lvOf (kind sm) = 0) (O : CellTallies nD τ sig Unit) (hO : O = Ow c 12 ∨ O = Ow c 0) :
    (levAts L lv : sProp 𝕄) ⊢ MayWait (c : Thread nD τ) sm () O := by
  rcases hO with rfl | rfl
  · exact mayWait c sm 12 (fun n _ _ => by rw [h]; split; · exact Nat.one_pos
                                           split; · exact Nat.two_pos
                                           exact Nat.succ_pos 2)
  · exact mayWait c sm 0 (fun n h1 h2 => absurd h1 (by omega))

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every fair run of the mesh ends, with every array at
    `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Ow d 12) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Mha

end
-- ==== Proof.Frames.lean ====
/-
# The frames

The kernel, at its own floats and over the reals, and the reference over the reals: each runs to the end, leaves its
arguments as they were and every counter at zero.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal.Run

@[expose] public section

noncomputable section

namespace Cert.Mha

open Idealize.ShloMosaic
open Idealize.ShloMosaic.TcCoe
open Idealize.SL.Sem

section Run

open Cert.KernelIdeal Cert.KernelIdeal.Gen

variable {F : FTy → Type} [FloatOps F]
variable (m : (ℓ : Loc nD τ sig) → Buf (Elt F) ℓ) (ρ : Dev nD → PrngReg)

/-- Every argument array ends as it began, and every counter at zero. -/
def Framed (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

/-- The arguments are inputs, so what the run leaves of each is what it began with. -/
theorem framed_of (r : PUnit × MemSt nD τ sig (Elt F)) (h : QC m ρ r ∧ r.2.sem = fun _ => 0) : Framed m r :=
  ⟨fun c => ⟨(h.1 c (0 : Fin 6)).trans ((dats (F := F) m ρ 0 c).arrAt_in (0 : Fin 6) rfl _),
    (h.1 c (1 : Fin 6)).trans ((dats (F := F) m ρ 0 c).arrAt_in (1 : Fin 6) rfl _),
    (h.1 c (3 : Fin 6)).trans ((dats (F := F) m ρ 0 c).arrAt_in (3 : Fin 6) rfl _),
    (h.1 c (4 : Fin 6)).trans ((dats (F := F) m ρ 0 c).arrAt_in (4 : Fin 6) rfl _),
    (h.1 c (2 : Fin 6)).trans ((dats (F := F) m ρ 0 c).arrAt_in (2 : Fin 6) rfl _)⟩, h.2⟩

/-- For any float values the mesh runs and is framed. -/
theorem run_framed : θ_run defs (onTc (τ := τ) (main (F := F))) ⟨m, fun _ => 0, ρ⟩ (Framed m) :=
  (θ_run defs _ _).mono (framed_of m ρ) (run_main m ρ)

end Run

/-! ## The kernel at its own floats: the same text -/

/-- The two programs' body tables are the same. -/
theorem bodies_eq : Cert.Kernel.defs₀ (F := Bits) = Cert.KernelIdeal.defs₀ := by
  refine congrArg (Defs.onTc (nD := Cert.KernelIdeal.nD) (τ := Cert.KernelIdeal.τ) (sig := Cert.KernelIdeal.sig) (Val := Elt Bits) (Λ := Cert.KernelIdeal.Λ₀)) ?_
  funext l
  match l with
  | ⟨0, _⟩ =>
    funext a
    obtain ⟨t, s⟩ := a
    show Cert.Kernel.cc0_body (Cert.Kernel.win0_0.stage (s 0)) (Cert.Kernel.Facts₀.hstage0_0 0) (Cert.Kernel.win0_1.stage (s 1)) (Cert.Kernel.Facts₀.hstage0_1 0) (Cert.Kernel.win0_2.stage (s 2)) (Cert.Kernel.Facts₀.hstage0_2 0) (Cert.Kernel.win0_3.stage (s 3)) (Cert.Kernel.Facts₀.hstage0_3 0) (Cert.Kernel.win0_4.stage (s 4)) (Cert.Kernel.Facts₀.hstage0_4 0) (Cert.Kernel.win0_5.stage (s 5)) (Cert.Kernel.Facts₀.hstage0_5 0) (Memref.whole Cert.Kernel.cc0_scratch0) (Memref.isWhole_whole _) (Memref.whole Cert.Kernel.cc0_scratch1) (Memref.isWhole_whole _) (Memref.whole Cert.Kernel.cc0_scratch2) (Memref.isWhole_whole _) (Memref.whole Cert.Kernel.cc0_scratch3) (Memref.isWhole_whole _) (Memref.whole Cert.Kernel.cc0_scratch4) (Memref.isWhole_whole _) Cert.Kernel.cc0_scratch5 Cert.Kernel.cc0_scratch6 Cert.Kernel.cc0_scratch7 Cert.Kernel.cc0_scratch8 = Cert.KernelIdeal.cc0_body (Cert.KernelIdeal.win0_0.stage (s 0)) (Cert.KernelIdeal.Facts₀.hstage0_0 0) (Cert.KernelIdeal.win0_1.stage (s 1)) (Cert.KernelIdeal.Facts₀.hstage0_1 0) (Cert.KernelIdeal.win0_2.stage (s 2)) (Cert.KernelIdeal.Facts₀.hstage0_2 0) (Cert.KernelIdeal.win0_3.stage (s 3)) (Cert.KernelIdeal.Facts₀.hstage0_3 0) (Cert.KernelIdeal.win0_4.stage (s 4)) (Cert.KernelIdeal.Facts₀.hstage0_4 0) (Cert.KernelIdeal.win0_5.stage (s 5)) (Cert.KernelIdeal.Facts₀.hstage0_5 0) (Memref.whole Cert.KernelIdeal.cc0_scratch0) (Memref.isWhole_whole _) (Memref.whole Cert.KernelIdeal.cc0_scratch1) (Memref.isWhole_whole _) (Memref.whole Cert.KernelIdeal.cc0_scratch2) (Memref.isWhole_whole _) (Memref.whole Cert.KernelIdeal.cc0_scratch3) (Memref.isWhole_whole _) (Memref.whole Cert.KernelIdeal.cc0_scratch4) (Memref.isWhole_whole _) Cert.KernelIdeal.cc0_scratch5 Cert.KernelIdeal.cc0_scratch6 Cert.KernelIdeal.cc0_scratch7 Cert.KernelIdeal.cc0_scratch8
    rfl
  | ⟨_ + 1, h⟩ => exact absurd h (Nat.not_lt.2 (Nat.le_add_left _ _))

/-- So are their tables of bodies and pipelines. -/
theorem defs_eq : Cert.Kernel.defs (F := Bits) = Cert.KernelIdeal.defs := congrArg (Pipeline.defs (Cert.KernelIdeal.pcfgs (F := Bits))) bodies_eq

theorem frame_kernel : Cert.quiescent_Kernel := fun m ρ _ =>
  (congrArg (fun D : Defs Cert.KernelIdeal.nD Cert.KernelIdeal.τ Cert.KernelIdeal.sig (Elt Bits) _ =>
    θ_run D (onTc (τ := Cert.KernelIdeal.τ) (Cert.KernelIdeal.main (F := Bits))) ⟨m, fun _ => 0, ρ⟩ (Framed m)) defs_eq).mpr (run_framed (F := Bits) m ρ)

theorem frame_ideal : Cert.quiescent_KernelIdeal := fun m ρ _ =>
  (θ_run Cert.KernelIdeal.defs _ _).mono (fun _ h => h) (run_framed (F := Ideal) m ρ)

/-- The reference has no semaphore. -/
theorem no_sems (f : GSem Cert.ReferenceIdeal.nD Cert.ReferenceIdeal.τ Cert.ReferenceIdeal.sig → ℤ) : f = fun _ => 0 :=
  funext fun g => by
    obtain ⟨t, s⟩ := g
    cases s with
    | reg s => exact absurd s.isLt (Nat.not_lt_zero _)
    | dma s => exact absurd s.isLt (Nat.not_lt_zero _)

theorem frame_reference : Cert.quiescent_ReferenceIdeal := fun m ρ _ =>
  (θ_run Cert.ReferenceIdeal.defs _ _).mono (fun r h => ⟨fun c => (h c).2, no_sems r.2.sem⟩) (Cert.ReferenceIdeal.Value.run (F := Ideal) m ρ)

end Cert.Mha

end
-- ==== Proof.Blocks.lean ====
/-
# The one block of every window is the whole array
-/
module

public import proofs.«01_k».proof.Proof.Launch
public import Idealize.ShloMosaic.Lib.Pipeline.ValueKit.Geometry

@[expose] public section

noncomputable section

namespace Cert.Mha

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- A device's batch entry is all of the array it is read from. -/
theorem ins_x (c : Dev nD) : (ins m c).x = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _

/-- The query projection likewise, -/
theorem ins_wq (c : Dev nD) : (ins m c).wq = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _

/-- the key projection, -/
theorem ins_wk (c : Dev nD) : (ins m c).wk = m ((c : Thread nD τ).loc main_arg2) := by
  have hz : (fun a => (win0_3.index t0_0) a * main_arg2.ty.shape.size a) = fun _ => 0 := funext fun a => by fin_cases a <;> decide
  exact Memref.read_access_unit_zero (Elt F) main_arg2 hz (fun a => by fin_cases a <;> decide) _

/-- the value projection, -/
theorem ins_wv (c : Dev nD) : (ins m c).wv = m ((c : Thread nD τ).loc main_arg3) := by
  have hz : (fun a => (win0_4.index t0_0) a * main_arg3.ty.shape.size a) = fun _ => 0 := funext fun a => by fin_cases a <;> decide
  exact Memref.read_access_unit_zero (Elt F) main_arg3 hz (fun a => by fin_cases a <;> decide) _

/-- and the output projection. -/
theorem ins_wo (c : Dev nD) : (ins m c).wo = m ((c : Thread nD τ).loc main_arg4) := by
  have hz : (fun a => (win0_2.index t0_0) a * main_arg4.ty.shape.size a) = fun _ => 0 := funext fun a => by fin_cases a <;> decide
  exact Memref.read_access_unit_zero (Elt F) main_arg4 hz (fun a => by fin_cases a <;> decide) _

/-- The result array ends holding all that the body left of it. -/
theorem final_result (c : Dev nD) : finalA m ρ c (5 : Fin 6) = outV (ins m) c := by
  funext i
  exact ((dats m ρ 0 c).arrAt_emb_eq_after_last (5 : Fin 6) t0_0 (by decide +kernel) i)

end Cert.Mha

end
-- ==== Proof.Heads.lean ====
/-
# The four devices' batches are one function

The body spells one batch entry through a device's eight heads four times over, each time cut differently. Here that
computation is written once, and each of the four spellings is shown to be it.
-/
module

public import proofs.«01_k».proof.Proof.Values

@[expose] public section

noncomputable section

namespace Cert.Mha

open Cert.KernelIdeal Cert.KernelIdeal.Gen
open Idealize.ShloMosaic

variable {F : FTy → Type} [FloatOps F]

/-- The exponentials of one head's scaled scores. -/
def expo (q k : FVec F S512x128 .bf16) : FVec F S512x512 .bf16 :=
  truncf .bf16 (exp (mulf (matmul dot_S512x128_S128x512_S512x512_1_0_0_1_n_n none q
    (transpose S128x512 [1, 0] k transposes_S512x128_p1_0_S128x512) (constant S512x512 .f32 0x00000000#32))
    (broadcast S512x512 (Scalar.ofBits .f32 0x3DB504F3#32)))) bitsLt_bf16_f32

/-- One head: the exponentials' product with the values, each row divided by its exponentials' sum. -/
def headOf (q k v : FVec F S512x128 .bf16) : FVec F S512x128 .bf16 :=
  truncf .bf16 (divf (matmul dot_S512x512_S512x128_S512x128_1_0_0_1_n_n none (expo q k) v
      (constant S512x128 .f32 0x00000000#32))
    (broadcastTo S512x128 (shapeCast S512x1 (multiReduction .add [1] S512 (extf .f32 (expo q k) bitsLt_bf16_f32)
      0x00000000#32 reduces_S512x512_S512 (.inl rfl) rfl) shapeCasts_S512_S512x1) broadcasts_S512x1_S512x128))
    bitsLt_bf16_f32

/-- The head whose columns start at `o` of the three projections. -/
def pick (o : ℕ) (h : S512x1024.Slices ![0, o] S512x128) (Q K V : FVec F S512x1024 .bf16) : FVec F S512x128 .bf16 :=
  headOf (extractStridedSlice S512x128 ![0, o] Q h) (extractStridedSlice S512x128 ![0, o] K h)
    (extractStridedSlice S512x128 ![0, o] V h)

/-- The eight heads' outputs side by side. -/
def cat (Q K V : FVec F S512x1024 .bf16) : FVec F S512x1024 .bf16 :=
  concatenate S512x1024 1 [⟨S512x128, pick 0 slices_S512x1024_o0_0_S512x128 Q K V⟩,
    ⟨S512x128, pick 128 slices_S512x1024_o0_128_S512x128 Q K V⟩,
    ⟨S512x128, pick 256 slices_S512x1024_o0_256_S512x128 Q K V⟩,
    ⟨S512x128, pick 384 slices_S512x1024_o0_384_S512x128 Q K V⟩,
    ⟨S512x128, pick 512 slices_S512x1024_o0_512_S512x128 Q K V⟩,
    ⟨S512x128, pick 640 slices_S512x1024_o0_640_S512x128 Q K V⟩,
    ⟨S512x128, pick 768 slices_S512x1024_o0_768_S512x128 Q K V⟩,
    ⟨S512x128, pick 896 slices_S512x1024_o0_896_S512x128 Q K V⟩]
    concatenates_S512x128_S512x128_S512x128_S512x128_S512x128_S512x128_S512x128_S512x128_S512x1024_d1

/-- One projection of a batch entry. -/
def projOf (X : FVec F S1x512x1024 .bf16) (A : FVec F S1024x1024 .bf16) : FVec F S512x1024 .bf16 :=
  truncf .bf16 (matmul dot_S512x1024_S1024x1024_S512x1024_1_0_0_1_n_n none
    (shapeCast S512x1024 X shapeCasts_S1x512x1024_S512x1024) A (constant S512x1024 .f32 0x00000000#32)) bitsLt_bf16_f32

section
variable (X : FVec F S1x512x1024 .bf16) (A B C D : FVec F S1024x1024 .bf16)

/-- The heads' outputs of a batch entry. -/
def heads : FVec F S512x1024 .bf16 := cat (projOf X A) (projOf X B) (projOf X C)

/-- The output projection of the upper half of the heads' outputs. -/
def upper (H : FVec F S512x1024 .bf16) : FVec F S1x256x1024 .bf16 :=
  shapeCast S1x256x1024 (truncf .bf16 (matmul dot_S256x1024_S1024x1024_S256x1024_1_0_0_1_n_n none
    (extractStridedSlice S256x1024 ![0, 0] H slices_S512x1024_o0_0_S256x1024) D (constant S256x1024 .f32 0x00000000#32))
    bitsLt_bf16_f32) shapeCasts_S256x1024_S1x256x1024

/-- The output projection of the lower half of the heads' outputs. -/
def lower (H : FVec F S512x1024 .bf16) : FVec F S1x256x1024 .bf16 :=
  shapeCast S1x256x1024 (truncf .bf16 (matmul dot_S256x1024_S1024x1024_S256x1024_1_0_0_1_n_n none
    (extractStridedSlice S256x1024 ![256, 0] H slices_S512x1024_o256_0_S256x1024) D
    (constant S256x1024 .f32 0x00000000#32)) bitsLt_bf16_f32) shapeCasts_S256x1024_S1x256x1024

/-- A device's own batch entry: the whole output projection of its heads' outputs. -/
theorem own_eq : own X A B C D = shapeCast S1x512x1024 (matmul dot_S512x1024_S1024x1024_S512x1024_1_0_0_1_n_n none
    (heads X A B C) D (constant S512x1024 .f32 0x00000000#32)) shapeCasts_S512x1024_S1x512x1024 := rfl

/-- The two halves written for the batch entry one place on. -/
theorem one0_eq : one0 X A B C D = upper D (heads X A B C) := rfl
theorem one1_eq : one1 X A B C D = lower D (heads X A B C) := rfl
/-- The two halves written for the batch entry two places on. -/
theorem two0_eq : two0 X A B C D = upper D (heads X A B C) := rfl
theorem two1_eq : two1 X A B C D = lower D (heads X A B C) := rfl
/-- The two halves written for the batch entry three places on. -/
theorem three0_eq : three0 X A B C D = upper D (heads X A B C) := rfl
theorem three1_eq : three1 X A B C D = lower D (heads X A B C) := rfl

end

end Cert.Mha

end
-- ==== Proof.Entry.lean ====
/-
# One head, one projection and one partial output, read at an index over the reals
-/
module

public import proofs.«01_k».proof.Proof.Heads
public import Idealize.ShloMosaic.Lib.Pointwise

@[expose] public section

noncomputable section

namespace Cert.Mha

open Cert.KernelIdeal Cert.KernelIdeal.Gen
open Idealize.ShloMosaic

/-- The scale both programs multiply the scores by. -/
def scale : EReal := Ideal.ofBits .f32 0x3DB504F3#32

/-- Softmax attention of one query: the values weighted by the exponentials of the scores, over their sum. -/
def att {n : ℕ} (s v : Fin n → EReal) : EReal := Ideal.div (∑ j, Ideal.exp (s j) * v j) (∑ j, Ideal.exp (s j))

/-- A head's output at a query and a column. -/
theorem headOf_at (q k v : FVec Ideal S512x128 .bf16) (i : Fin 512) (d : Fin 128) :
    headOf q k v (ix2 i d) = att (fun j => (∑ e : Fin 128, q (ix2 i e) * k (ix2 j e)) * scale) (fun j => v (ix2 j d)) := by
  pointwise [headOf, expo, att, scale]

/-- A projection at a row and a column. -/
theorem projOf_at (X : FVec Ideal S1x512x1024 .bf16) (A : FVec Ideal S1024x1024 .bf16) (i : Fin 512) (n : Fin 1024) :
    projOf X A (ix2 i n) = ∑ k : Fin 1024, X (ix3 0 i k) * A (ix2 k n) := by
  pointwise [projOf]

/-- The column `e` of the head that column `n` belongs to. -/
abbrev headCol {N : ℕ} (hN : 128 ∣ N) (n : Fin N) (e : Fin 128) : Fin N :=
  ⟨n.val / 128 * 128 + e.val, by have := n.isLt; have := e.isLt; omega⟩

/-- The head whose columns start at `o`, at a query and a column. -/
theorem pick_at (o : ℕ) (h : S512x1024.Slices ![0, o] S512x128) (ho : o + 128 ≤ 1024) (Q K V : FVec Ideal S512x1024 .bf16)
    (i : Fin 512) (d : Fin 128) :
    pick o h Q K V (ix2 i d)
      = att (fun j => (∑ e : Fin 128, Q (ix2 i ⟨o + e.val, by have := e.isLt; omega⟩)
          * K (ix2 j ⟨o + e.val, by have := e.isLt; omega⟩)) * scale)
        (fun j => V (ix2 j ⟨o + d.val, by have := d.isLt; omega⟩)) := by
  rw [pick, headOf_at]
  pointwise

/-- The head that column `n` belongs to, read at that column. -/
theorem pick_col (o : ℕ) (h : S512x1024.Slices ![0, o] S512x128) (Q K V : FVec Ideal S512x1024 .bf16) (i : Fin 512)
    (n : Fin 1024) (d : Fin 128) (ho : n.val / 128 * 128 = o) (hd : o + d.val = n.val) :
    pick o h Q K V (ix2 i d)
      = att (fun j => (∑ e : Fin 128, Q (ix2 i (headCol (by decide) n e)) * K (ix2 j (headCol (by decide) n e))) * scale)
        (fun j => V (ix2 j n)) := by
  subst ho
  rw [pick_at _ h (by have := n.isLt; omega)]
  simp only [hd]

/-- The heads' outputs at a query and a column: the attention of the head that column belongs to. -/
theorem cat_at (Q K V : FVec Ideal S512x1024 .bf16) (i : Fin 512) (n : Fin 1024) :
    cat Q K V (ix2 i n)
      = att (fun j => (∑ e : Fin 128, Q (ix2 i (headCol (by decide) n e)) * K (ix2 j (headCol (by decide) n e))) * scale)
        (fun j => V (ix2 j n)) := by
  have := n.isLt
  pointwise [cat]
  split_ifs <;> exact pick_col _ _ _ _ _ _ _ _ (by omega) (by simp only []; omega)

/-- A batch entry's scores between two rows, in the head that column `n` belongs to. -/
def score {N : ℕ} (hN : 128 ∣ N) (x : Fin 512 → Fin 1024 → EReal) (wq wk : Fin 1024 → Fin N → EReal) (n : Fin N)
    (i j : Fin 512) : EReal :=
  (∑ e : Fin 128, (∑ k : Fin 1024, x i k * wq k (headCol hN n e)) * (∑ k : Fin 1024, x j k * wk k (headCol hN n e))) * scale

/-- The attention output of a batch entry at a row and a column. -/
def attn {N : ℕ} (hN : 128 ∣ N) (x : Fin 512 → Fin 1024 → EReal) (wq wk wv : Fin 1024 → Fin N → EReal) (i : Fin 512)
    (n : Fin N) : EReal :=
  att (fun j => score hN x wq wk n i j) (fun j => ∑ k : Fin 1024, x j k * wv k n)

/-- A block's rows and columns. -/
abbrev mat {n0 n1 : ℕ} (A : (⟨2, ![n0, n1]⟩ : Shape).Idx → EReal) : Fin n0 → Fin n1 → EReal := fun k n => A (ix2 k n)
/-- One batch entry's rows and columns. -/
abbrev row {b n0 n1 : ℕ} (c : Fin b) (X : (⟨3, ![b, n0, n1]⟩ : Shape).Idx → EReal) : Fin n0 → Fin n1 → EReal :=
  fun k n => X (ix3 c k n)

section
variable (X : FVec Ideal S1x512x1024 .bf16) (A B C D : FVec Ideal S1024x1024 .bf16)

/-- The heads' outputs of a batch entry at a row and a column. -/
theorem heads_at (i : Fin 512) (n : Fin 1024) :
    heads X A B C (ix2 i n) = attn (by decide) (row 0 X) (mat A) (mat B) (mat C) i n := by
  rw [heads, cat_at]
  simp only [projOf_at, attn, score, mat, row]

/-- A device's partial output of a batch entry at a row and a column. -/
def part (i : Fin 512) (l : Fin 1024) : EReal :=
  ∑ n : Fin 1024, attn (by decide) (row 0 X) (mat A) (mat B) (mat C) i n * D (ix2 n l)

/-- A device's partial output of its own batch entry. -/
theorem own_at (i : Fin 512) (l : Fin 1024) : own (F := Ideal) X A B C D (ix3 0 i l) = part X A B C D i l := by
  rw [own_eq]
  pointwise [part]
  simp only [heads_at]

/-- The upper half of an outgoing partial. -/
theorem upper_at (i : Fin 256) (l : Fin 1024) :
    upper D (heads X A B C) (ix3 0 i l) = part X A B C D ⟨i.val, by have := i.isLt; omega⟩ l := by
  pointwise [part, upper]
  simp only [heads_at]

/-- The lower half of an outgoing partial. -/
theorem lower_at (i : Fin 256) (l : Fin 1024) :
    lower D (heads X A B C) (ix3 0 i l) = part X A B C D ⟨256 + i.val, by have := i.isLt; omega⟩ l := by
  pointwise [part, lower]
  simp only [heads_at]

end

end Cert.Mha

end
-- ==== Proof.Softmax.lean ====
/-
# Softmax does not change when its scores are shifted by their maximum
-/
module

public import proofs.«01_k».proof.Proof.Entry

@[expose] public section

noncomputable section

namespace Cert.Mha

open Idealize.ShloMosaic

/-- An extended real that is a real number. -/
def IsReal (a : EReal) : Prop := ∃ r : ℝ, (r : EReal) = a

/-- A product of two reals is a real. -/
theorem IsReal.mul {a b : EReal} (ha : IsReal a) (hb : IsReal b) : IsReal (a * b) := by
  obtain ⟨r, rfl⟩ := ha
  obtain ⟨t, rfl⟩ := hb
  exact ⟨r * t, EReal.coe_mul r t⟩

/-- A finite sum of reals is a real. -/
theorem IsReal.sum {ι : Type*} (S : Finset ι) {f : ι → EReal} (h : ∀ i, IsReal (f i)) : IsReal (∑ i ∈ S, f i) := by
  classical
  induction S using Finset.induction_on with
  | empty => exact ⟨0, by simp⟩
  | insert a S ha ih =>
    rw [Finset.sum_insert ha]
    obtain ⟨r, hr⟩ := h a
    obtain ⟨t, ht⟩ := ih
    exact ⟨r + t, by rw [← hr, ← ht, EReal.coe_add]⟩

/-- The sum of reals, taken among the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- An extended real whose absolute value is under the infinity is a real. -/
theorem isReal_of_abs_lt {a : EReal} (h : max a (-a) < ⊤) : IsReal a := by
  induction a with
  | bot => simp at h
  | top => simp at h
  | coe r => exact ⟨r, rfl⟩

/-- A nonnegative real factor comes out of a finite sum, whatever infinities the terms hold. -/
theorem sum_mul_real {ι : Type*} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (by exact_mod_cast hc) (EReal.coe_ne_top c), ih]

/-- A positive real factor cancels from a quotient whose divisor is a positive real. -/
theorem div_mul_real (a : EReal) {b c : ℝ} (hb : 0 < b) (hc : 0 < c) :
    Ideal.div (a * (c : EReal)) ((b : EReal) * (c : EReal)) = Ideal.div a b := by
  have hbc : b * c ≠ 0 := (mul_pos hb hc).ne'
  rw [← EReal.coe_mul, Ideal.div_coe hbc, Ideal.div_coe hb.ne', mul_assoc, ← EReal.coe_mul]
  congr 2
  field_simp

/-- The maximum of finitely many reals, at least one, is a real. -/
theorem isReal_max {n : ℕ} (hn : 0 < n) {s : Fin n → EReal} (hs : ∀ j, IsReal (s j)) :
    IsReal (Finset.univ.fold max ⊥ s) := by
  haveI : Nonempty (Fin n) := ⟨⟨0, hn⟩⟩
  obtain ⟨j, -, hj⟩ := Finset.exists_mem_eq_sup Finset.univ Finset.univ_nonempty s
  have e : Finset.univ.fold max ⊥ s = s j := hj
  rw [e]; exact hs j

/-- Attention over real scores is unchanged when every score is lowered by one real. -/
theorem att_shift {n : ℕ} (hn : 0 < n) {s : Fin n → EReal} (hs : ∀ j, IsReal (s j)) (v : Fin n → EReal) {m : EReal} (hm : IsReal m) :
    att (fun j => s j - m) v = att s v := by
  obtain ⟨μ, rfl⟩ := hm
  choose r hr using hs
  have he : ∀ j, Ideal.exp (s j - (μ : EReal)) = Ideal.exp (s j) * ((Real.exp (-μ) : ℝ) : EReal) := fun j => by
    rw [← hr j, ← EReal.coe_sub, Ideal.exp_coe, Ideal.exp_coe, ← EReal.coe_mul, sub_eq_add_neg, Real.exp_add]
  have hpos : 0 < Real.exp (-μ) := Real.exp_pos _
  have hsum : (∑ j, Ideal.exp (s j)) = ((∑ j, Real.exp (r j) : ℝ) : EReal) := by
    rw [coe_sum]
    exact Finset.sum_congr rfl fun j _ => by rw [← hr j, Ideal.exp_coe]
  haveI : Nonempty (Fin n) := ⟨⟨0, hn⟩⟩
  have hb : 0 < ∑ j, Real.exp (r j) := Finset.sum_pos (fun j _ => Real.exp_pos _) Finset.univ_nonempty
  unfold att
  simp only [he, mul_right_comm _ ((Real.exp (-μ) : ℝ) : EReal)]
  rw [← sum_mul_real _ _ hpos.le, ← sum_mul_real _ _ hpos.le, hsum]
  exact div_mul_real _ hb hpos

/-- The scale is a real. -/
theorem isReal_scale : IsReal scale := by
  unfold scale Ideal.ofBits Ideal.ieee
  simp only []
  rw [if_neg (by decide), if_neg (by decide)]
  exact ⟨_, rfl⟩

/-- The scores are reals when the inputs they are computed from are. -/
theorem isReal_score {N : ℕ} (hN : 128 ∣ N) {x : Fin 512 → Fin 1024 → EReal} {wq wk : Fin 1024 → Fin N → EReal}
    (hx : ∀ i k, IsReal (x i k)) (hq : ∀ k n, IsReal (wq k n)) (hk : ∀ k n, IsReal (wk k n)) (n : Fin N) (i j : Fin 512) :
    IsReal (score hN x wq wk n i j) :=
  (IsReal.sum _ fun _ => (IsReal.sum _ fun _ => (hx _ _).mul (hq _ _)).mul (IsReal.sum _ fun _ => (hx _ _).mul (hk _ _))).mul isReal_scale

end Cert.Mha

end
-- ==== Proof.Finite.lean ====
/-
# What the precondition says: the entries the scores are computed from are reals
-/
module

public import proofs.«01_k».proof.Defs
public import proofs.«01_k».proof.Proof.Softmax
public import Idealize.ShloMosaic.Lib.ReduceAll

@[expose] public section

noncomputable section

namespace Cert.Mha

open Idealize.ShloMosaic

/-- The shapes the precondition's operations take agree: a device's blocks, -/
theorem pre_facts : Cert.Pre_finite_scores_KernelIdeal.Facts where
  bcast_S_S1x512x1024 := by decide
  reducesTo_S1x512x1024_S_d0_1_2 := by decide
  h_S_ := by decide
  bcast_S_S1024x1024 := by decide
  reducesTo_S1024x1024_S_d0_1 := by decide

/-- and the whole arrays. -/
theorem pre_facts_ref : Cert.Pre_finite_scores_ReferenceIdeal.Facts where
  bcast_S_S4x512x1024 := by decide
  reducesTo_S4x512x1024_S_d0_1_2 := by decide
  h_S_ := by decide
  bcast_S_S1024x4096 := by decide
  reducesTo_S1024x4096_S_d0_1 := by decide

/-- An entry whose absolute value compares under the infinity is a real. -/
theorem isReal_of_cmp {a : Ideal .f32} (h : FloatOps.cmpf .olt (FloatOps.hostAbsf a) (FloatOps.ofBits (F := Ideal) .f32 0x7F800000#32) = 1#1) :
    IsReal a := by
  have ht : Ideal.ofBits .f32 0x7F800000#32 = ⊤ := by
    unfold Ideal.ofBits Ideal.ieee
    simp only []
    rw [if_pos (by decide), if_pos (by decide), if_neg (by decide)]
  have hc : BitVec.ofBool (decide (max a (-a) < Ideal.ofBits .f32 0x7F800000#32)) = 1#1 := h
  rw [ht] at hc
  by_cases hlt : max a (-a) < (⊤ : EReal)
  · exact isReal_of_abs_lt hlt
  · rw [decide_eq_false hlt] at hc
    exact absurd hc (by decide)

/-- A conjunction of two bits that is one has both one. -/
theorem bits_of_and {a b : BitVec 1} (h : IntOp.andi a b = 1#1) : a = 1#1 ∧ b = 1#1 := by
  revert a b; decide

open Cert.Pre_finite_scores_KernelIdeal in
attribute [local instance] pre_facts in
/-- Where the precondition holds of a device's blocks, its batch entry and its query and key projections are real. -/
theorem reals_of_pre {x : FVec Ideal S1x512x1024 .f32} {wq wk wv wo : FVec Ideal S1024x1024 .f32}
    (h : fn (F := Ideal) x wq wk wv wo = fun _ => 1#1) : (∀ i, IsReal (x i)) ∧ (∀ i, IsReal (wq i)) ∧ (∀ i, IsReal (wk i)) := by
  have e := congrFun h (fun a => a.elim0)
  obtain ⟨e12, e3⟩ := bits_of_and e
  obtain ⟨e1, e2⟩ := bits_of_and e12
  haveI : Subsingleton S_.Idx := ⟨fun a b => funext fun k => k.elim0⟩
  exact ⟨fun i => isReal_of_cmp (Host.reduce_andi_all _ _ _ _ _ e1 i), fun i => isReal_of_cmp (Host.reduce_andi_all _ _ _ _ _ e2 i),
    fun i => isReal_of_cmp (Host.reduce_andi_all _ _ _ _ _ e3 i)⟩

end Cert.Mha

end
-- ==== Proof.Join.lean ====
/-
# The devices' partial outputs add up to the whole attention

Device `s` holds 1024 columns of the whole: the columns of its heads.
-/
module

public import proofs.«01_k».proof.Proof.Entry
public import Idealize.ShloMosaic.Lib.Layout

@[expose] public section

noncomputable section

namespace Cert.Mha

open Idealize.ShloMosaic

variable (X : (⟨3, ![4, 512, 1024]⟩ : Shape).Idx → EReal) (A B C : (⟨2, ![1024, 4096]⟩ : Shape).Idx → EReal)
  (D : (⟨2, ![4096, 1024]⟩ : Shape).Idx → EReal)

/-- One device's batch entry, its columns of a projection, and its rows of the output projection. -/
abbrev blkX (c : Fin 4) : (⟨3, ![1, 512, 1024]⟩ : Shape).Idx → EReal := Layout.block ⟨3, ![1, 512, 1024]⟩ ⟨3, ![4, 512, 1024]⟩ 0 4 c X
abbrev blkW (c : Fin 4) : (⟨2, ![1024, 1024]⟩ : Shape).Idx → EReal := Layout.block ⟨2, ![1024, 1024]⟩ ⟨2, ![1024, 4096]⟩ 1 4 c A
abbrev blkO (c : Fin 4) : (⟨2, ![1024, 1024]⟩ : Shape).Idx → EReal := Layout.block ⟨2, ![1024, 1024]⟩ ⟨2, ![4096, 1024]⟩ 0 4 c D

/-- Where column `n` of device `c` is in the whole. -/
abbrev colOf (c : Fin 4) (n : Fin 1024) : Fin 4096 := ⟨c.val * 1024 + n.val, by have := c.isLt; have := n.isLt; omega⟩

/-- A device's batch entry, read at a row and a column. -/
theorem blkX_at (c : Fin 4) (i : Fin 512) (k : Fin 1024) : blkX X c (ix3 0 i k) = X (ix3 c i k) :=
  congrArg X (by
    funext a
    match a with
    | ⟨0, _⟩ => exact Fin.ext (by show c.val * 1 + 0 = c.val; omega)
    | ⟨1, _⟩ => rfl
    | ⟨2, _⟩ => rfl)

/-- A device's columns of a projection, read at a row and a column. -/
theorem blkW_at (c : Fin 4) (k n : Fin 1024) : blkW A c (ix2 k n) = A (ix2 k (colOf c n)) :=
  congrArg A (by funext a; match a with | ⟨0, _⟩ => rfl | ⟨1, _⟩ => rfl)

/-- A device's rows of the output projection, read at a row and a column. -/
theorem blkO_at (c : Fin 4) (n l : Fin 1024) : blkO D c (ix2 n l) = D (ix2 (colOf c n) l) :=
  congrArg D (by funext a; match a with | ⟨0, _⟩ => rfl | ⟨1, _⟩ => rfl)

/-- The columns of a head of device `c` are the whole's columns of that head. -/
theorem headCol_block (c : Fin 4) (n : Fin 1024) (e : Fin 128) :
    colOf c (headCol (by decide) n e) = headCol (by decide) (colOf c n) e :=
  Fin.ext (by show c.val * 1024 + (n.val / 128 * 128 + e.val) = (c.val * 1024 + n.val) / 128 * 128 + e.val; omega)

/-- The attention on a device's columns is the whole's attention on those columns. -/
theorem attn_block (c b : Fin 4) (i : Fin 512) (n : Fin 1024) :
    attn (by decide) (row 0 (blkX X b)) (mat (blkW A c)) (mat (blkW B c)) (mat (blkW C c)) i n
      = attn (by decide) (row b X) (mat A) (mat B) (mat C) i (colOf c n) := by
  simp only [attn, score, row, mat, blkX_at, blkW_at, headCol_block]

/-- The partial outputs of a batch entry, added over the devices, are the whole attention times the whole output
    projection. -/
theorem parts_sum (b : Fin 4) (i : Fin 512) (l : Fin 1024) :
    ∑ s : Fin 4, part (blkX X b) (blkW A s) (blkW B s) (blkW C s) (blkO D s) i l
      = ∑ n : Fin 4096, attn (by decide) (row b X) (mat A) (mat B) (mat C) i n * D (ix2 n l) := by
  rw [Fin.sum_univ_tiles 4 1024 (by decide) (fun n : Fin 4096 => attn (by decide) (row b X) (mat A) (mat B) (mat C) i n * D (ix2 n l))]
  refine Finset.sum_congr rfl fun s _ => Finset.sum_congr rfl fun n _ => ?_
  rw [attn_block, blkO_at]

end Cert.Mha

end
-- ==== Proof.RefEntry.lean ====
/-
# The reference's result, read at an index over the reals
-/
module

public import proofs.«01_k».proof.Proof.Softmax
public import proofs.«01_k».proof.Proof.Gen.ReferenceIdeal.Run

@[expose] public section

noncomputable section

namespace Cert.Mha.Ref

open Cert.ReferenceIdeal Cert.ReferenceIdeal.Gen Cert.ReferenceIdeal.Facts
open Idealize.ShloMosaic

section
variable (X : FVec Ideal S4x512x1024 .f32) (A B C : FVec Ideal S1024x4096 .f32) (D : FVec Ideal S4096x1024 .f32)

/-- A projection of every batch entry, its columns cut into heads. -/
def proj (X : FVec Ideal S4x512x1024 .f32) (A : FVec Ideal S1024x4096 .f32) : FVec Ideal S4x512x32x128 .f32 :=
  shapeCast _ (Host.dotGeneral dot_S4x512x1024_S1024x4096_S4x512x4096_2_0_01_1_n_n none X A) shapeCasts_S4x512x4096_S4x512x32x128

/-- The scores. -/
def sc (Q K : FVec Ideal S4x512x32x128 .f32) : FVec Ideal S4x32x512x512 .f32 :=
  mulf (Host.dotGeneral dot_S4x512x32x128_S4x512x32x128_S4x32x512x512_3_3_1_1_02_02 none Q K)
    (broadcastInDim S4x32x512x512 ![] bcast_S_S4x32x512x512 (constant S_ .f32 0x3DB504F3#32))

/-- The exponentials of the scores, each lowered by its row's maximum. -/
def ex (S : FVec Ideal S4x32x512x512 .f32) : FVec Ideal S4x32x512x512 .f32 :=
  Host.exp (subf S (broadcastInDim S4x32x512x512 ![0, 1, 2, 3] bcast_S4x32x512x1_S4x32x512x512_0_1_2_3
    (broadcastInDim S4x32x512x1 ![0, 1, 2] bcast_S4x32x512_S4x32x512x1_0_1_2
      (Host.reduce FloatOps.maximumf S (constant S_ .f32 0xFF800000#32) reducesTo_S4x32x512x512_S4x32x512_d3 h_S_))))

/-- The values weighted by the exponentials, over the exponentials' sum. -/
def weigh (V : FVec Ideal S4x512x32x128 .f32) (P : FVec Ideal S4x32x512x512 .f32) : FVec Ideal S4x512x32x128 .f32 :=
  Host.divf (transpose S4x512x32x128 [0, 3, 1, 2]
      (Host.dotGeneral dot_S4x512x32x128_S4x32x512x512_S4x32x128x512_1_3_3_2_02_01 none V P) transposes_S4x32x128x512_S4x512x32x128_0_3_1_2)
    (broadcastInDim S4x512x32x128 ![0, 1, 2, 3] bcast_S4x512x32x1_S4x512x32x128_0_1_2_3
      (transpose S4x512x32x1 [0, 2, 1, 3] (broadcastInDim S4x32x512x1 ![0, 1, 2] bcast_S4x32x512_S4x32x512x1_0_1_2
        (Host.reduceAdd P (constant S_ .f32 0x00000000#32) reducesTo_S4x32x512x512_S4x32x512_d3 h_S_))
        transposes_S4x32x512x1_S4x512x32x1_0_2_1_3))

/-- The reference's result as a function of its five arguments. -/
def result : FVec Ideal S4x512x1024 .f32 :=
  Host.dotGeneral dot_S4x512x4096_S4096x1024_S4x512x1024_2_0_01_1_n_n none
    (shapeCast _ (weigh (proj X C) (ex (sc (proj X A) (proj X B)))) shapeCasts_S4x512x32x128_S4x512x4096) D

/-- Column `e` of head `h`. -/
abbrev col (h : Fin 32) (e : Fin 128) : Fin 4096 := ⟨h.val * 128 + e.val, by have := h.isLt; have := e.isLt; omega⟩

/-- A projection at a batch entry, a row, a head and a column of it. -/
theorem proj_at (b : Fin 4) (i : Fin 512) (h : Fin 32) (e : Fin 128) :
    proj X A (ix4 b i h e) = ∑ k : Fin 1024, X (ix3 b i k) * A (ix2 k (col h e)) := by
  pointwise [proj]

/-- A score. -/
theorem sc_at (Q K : FVec Ideal S4x512x32x128 .f32) (b : Fin 4) (h : Fin 32) (i j : Fin 512) :
    sc Q K (ix4 b h i j) = (∑ e : Fin 128, Q (ix4 b i h e) * K (ix4 b j h e)) * scale := by
  pointwise [sc, scale]

/-- A lowered exponential. -/
theorem ex_at (S : FVec Ideal S4x32x512x512 .f32) (b : Fin 4) (h : Fin 32) (i j : Fin 512) :
    ex S (ix4 b h i j) = Ideal.exp (S (ix4 b h i j) - Finset.univ.fold max ⊥ (fun k => S (ix4 b h i k))) := by
  have hb : Ideal.ofBits .f32 0xFF800000#32 = ⊥ := by
    unfold Ideal.ofBits Ideal.ieee
    simp only []
    rw [if_pos (by decide), if_pos (by decide), if_pos (by decide)]
  pointwise [ex]
  rw [hb]

/-- An attention output, from the exponentials. -/
theorem weigh_at (V : FVec Ideal S4x512x32x128 .f32) (P : FVec Ideal S4x32x512x512 .f32) (b : Fin 4) (i : Fin 512) (h : Fin 32) (e : Fin 128) :
    weigh V P (ix4 b i h e) = Ideal.div (∑ j : Fin 512, P (ix4 b h i j) * V (ix4 b j h e)) (∑ j : Fin 512, P (ix4 b h i j)) := by
  pointwise [weigh]
  simp only [mul_comm (V _)]

/-- The result as a sum over the columns the heads lay side by side. -/
theorem result_cols (b : Fin 4) (i : Fin 512) (l : Fin 1024) :
    result X A B C D (ix3 b i l) = ∑ n : Fin 4096, weigh (proj X C) (ex (sc (proj X A) (proj X B)))
      (ix4 b i ⟨n.val / 128, by have := n.isLt; omega⟩ ⟨n.val % 128, by omega⟩) * D (ix2 n l) := by
  pointwise [result]

/-- Over real inputs to the scores, the reference's result is the attention of every column, times the output projection. -/
theorem result_at (hX : ∀ i, IsReal (X i)) (hA : ∀ i, IsReal (A i)) (hB : ∀ i, IsReal (B i)) (b : Fin 4) (i : Fin 512) (l : Fin 1024) :
    result X A B C D (ix3 b i l)
      = ∑ n : Fin 4096, attn (by decide) (row b X) (mat A) (mat B) (mat C) i n * D (ix2 n l) := by
  rw [result_cols]
  refine Finset.sum_congr rfl fun n _ => congrArg (· * D (ix2 n l)) ?_
  have hn : col ⟨n.val / 128, by have := n.isLt; omega⟩ ⟨n.val % 128, by omega⟩ = n := Fin.ext (by show n.val / 128 * 128 + n.val % 128 = n.val; omega)
  have hs := fun j => isReal_score (N := 4096) (by decide) (x := row b X) (wq := mat A) (wk := mat B)
    (fun _ _ => hX _) (fun _ _ => hA _) (fun _ _ => hB _) n i j
  rw [weigh_at]
  simp only [ex_at, sc_at, proj_at, hn]
  exact att_shift (by decide) hs _ (isReal_max (by decide) hs)

end

end Cert.Mha.Ref

end
-- ==== Proof.Result.lean ====
/-
# A device's result block, read at an index over the reals

Its own partial output of its batch entry and the three that come in, each a sum over one device's heads' columns.
-/
module

public import proofs.«01_k».proof.Proof.Entry

@[expose] public section

noncomputable section

namespace Cert.Mha

open Cert.KernelIdeal Cert.KernelIdeal.Gen
open Idealize.ShloMosaic

variable (I : Dev nD → Ins Ideal)

/-- Over the reals the copies sent around and the weights taken are the input blocks themselves. -/
theorem xs_eq (b : Dev nD) : xs I b = (I b).x := by
  funext i; rw [eq_ix3 i]; pointwise [xs, k0_pay1]
theorem aQ_eq (c : Dev nD) : aQ I c = (I c).wq := by
  funext i; rw [eq_ix2 i]; pointwise [aQ, k0_pay2]
theorem aK_eq (c : Dev nD) : aK I c = (I c).wk := by
  funext i; rw [eq_ix2 i]; pointwise [aK, k0_pay3]
theorem aV_eq (c : Dev nD) : aV I c = (I c).wv := by
  funext i; rw [eq_ix2 i]; pointwise [aV, k0_pay4]
theorem aO_eq (c : Dev nD) : aO I c = (I c).wo := by
  funext i; rw [eq_ix2 i]; pointwise [aO, k0_pay5]

/-- Device `c`'s partial output of device `b`'s batch entry. -/
def partOf (c b : Dev nD) (i : Fin 512) (l : Fin 1024) : EReal := part (I b).x (I c).wq (I c).wk (I c).wv (I c).wo i l

/-- The upper half of an outgoing slot holds the partial output of the batch entry that many places on. -/
theorem half0_at (c : Dev nD) (s : Fin 3) (i : Fin 256) (l : Fin 1024) :
    half I c s 0 (ix3 0 i l) = partOf I c (pk c ⟨s.val + 1, by omega⟩) ⟨i.val, by omega⟩ l := by
  fin_cases s
  · show one0 _ _ _ _ _ _ = _
    rw [one0_eq, upper_at, xs_eq, aQ_eq, aK_eq, aV_eq, aO_eq]; rfl
  · show two0 _ _ _ _ _ _ = _
    rw [two0_eq, upper_at, xs_eq, aQ_eq, aK_eq, aV_eq, aO_eq]; rfl
  · show three0 _ _ _ _ _ _ = _
    rw [three0_eq, upper_at, xs_eq, aQ_eq, aK_eq, aV_eq, aO_eq]; rfl

/-- Its lower half likewise. -/
theorem half1_at (c : Dev nD) (s : Fin 3) (i : Fin 256) (l : Fin 1024) :
    half I c s 1 (ix3 0 i l) = partOf I c (pk c ⟨s.val + 1, by omega⟩) ⟨256 + i.val, by omega⟩ l := by
  fin_cases s
  · show one1 _ _ _ _ _ _ = _
    rw [one1_eq]; refine (lower_at _ _ _ _ _ _ _).trans ?_; rw [xs_eq, aQ_eq, aK_eq, aV_eq, aO_eq]; rfl
  · show two1 _ _ _ _ _ _ = _
    rw [two1_eq, lower_at, xs_eq, aQ_eq, aK_eq, aV_eq, aO_eq]; rfl
  · show three1 _ _ _ _ _ _ = _
    rw [three1_eq, lower_at, xs_eq, aQ_eq, aK_eq, aV_eq, aO_eq]; rfl

/-- An outgoing slot of device `c`, read at a row and a column. -/
theorem poutB_at (c : Dev nD) (s : Fin 3) (i : Fin 512) (l : Fin 1024) :
    poutB I c (ix3 s i l) = partOf I c (pk c ⟨s.val + 1, by omega⟩) i l := by
  have hi := i.isLt
  have e256 : ∀ (r : Fin 256), at256 r l = ix3 0 r l := fun r => by
    funext a; match a with | ⟨0, _⟩ => rfl | ⟨1, _⟩ => rfl | ⟨2, _⟩ => rfl
  show half I c s ⟨i.val / 256, _⟩ (at256 ⟨i.val % 256, _⟩ l) = _
  rw [e256]
  rcases Nat.lt_or_ge i.val 256 with h | h
  · rw [show (⟨i.val / 256, by omega⟩ : Fin 2) = 0 from Fin.ext (by show i.val / 256 = 0; omega), half0_at]
    exact congrArg (fun r => partOf I c _ r l) (Fin.ext (by show i.val % 256 = i.val; omega))
  · rw [show (⟨i.val / 256, by omega⟩ : Fin 2) = 1 from Fin.ext (by show i.val / 256 = 1; omega), half1_at]
    exact congrArg (fun r => partOf I c _ r l) (Fin.ext (by show 256 + i.val % 256 = i.val; omega))

/-- An incoming slot of device `c`, read at a row and a column: the partial output of `c`'s own batch entry, of the
    device that many places on. -/
theorem pinS_at (c : Dev nD) (j : Fin 3) (i : Fin 512) (l : Fin 1024) :
    pinS I c j (ix3 0 i l) = partOf I (pk c ⟨j.val + 1, by omega⟩) c i l := by
  have e : pinS I c j (ix3 0 i l) = poutB I (pk c ⟨j.val + 1, by omega⟩) (ix3 ⟨2 - j.val, by omega⟩ i l) := by
    have e1 : pinS I c j (ix3 0 i l) = pinB I c (ix3 j i l) := by
      refine congrArg (pinB I c) ?_
      funext a; match a with | ⟨0, _⟩ => rfl | ⟨1, _⟩ => rfl | ⟨2, _⟩ => rfl
    rw [e1]; unfold pinB
    refine congrArg (poutB I (pk c ⟨j.val + 1, by omega⟩)) ?_
    funext a; match a with | ⟨0, _⟩ => rfl | ⟨1, _⟩ => rfl | ⟨2, _⟩ => rfl
  rw [e, poutB_at]
  congr 1
  have := c.isLt
  refine Fin.ext ?_
  show ((c.val + (j.val + 1)) % 4 + (2 - j.val + 1)) % 4 = c.val
  have : c.val < 4 := c.isLt
  omega

/-- A sum over the devices, taken in the order device `c` adds. -/
theorem sum_around (f : Dev nD → EReal) (c : Dev nD) :
    f c + f (pk c ⟨(2 : Fin 3).val + 1, by decide⟩) + f (pk c ⟨(0 : Fin 3).val + 1, by decide⟩)
      + f (pk c ⟨(1 : Fin 3).val + 1, by decide⟩) = ∑ s : Dev nD, f s := by
  have e : ∑ s : Dev nD, f s = f 0 + f 1 + f 2 + f 3 := Fin.sum_univ_four f
  rw [e]
  rcases (by decide : ∀ c : Dev nD, c = 0 ∨ c = 1 ∨ c = 2 ∨ c = 3) c with rfl | rfl | rfl | rfl
  · show f 0 + f 3 + f 1 + f 2 = _; abel
  · show f 1 + f 0 + f 2 + f 3 = _; abel
  · show f 2 + f 1 + f 3 + f 0 = _; abel
  · show f 3 + f 2 + f 0 + f 1 = _; abel

/-- Device `c`'s result at a row and a column: the sum over the devices of their partial outputs of its batch entry. -/
theorem outV_at (c : Dev nD) (i : Fin 512) (l : Fin 1024) :
    outV I c (ix3 0 i l) = ∑ s : Dev nD, partOf I s c i l := by
  have h : outV I c (ix3 0 i l)
      = ownOut I c (ix3 0 i l) + pinS I c 2 (ix3 0 i l) + pinS I c 0 (ix3 0 i l) + pinS I c 1 (ix3 0 i l) := by
    pointwise [outV, k0_pay88, k0_pay89, k0_pay90]
  have h0 : ownOut I c (ix3 0 i l) = partOf I c c i l := by
    rw [ownOut, own_at, xs_eq, aQ_eq, aK_eq, aV_eq, aO_eq]; rfl
  rw [h, h0, pinS_at, pinS_at, pinS_at]
  exact sum_around (fun s => partOf I s c i l) c

end Cert.Mha

end
-- ==== Proof.Algebraic.lean ====
/-
# The value claim

Over the reals, where the inputs to the scores are real, every device's result is its batch entry of the reference's.
-/
module

public import proofs.«01_k».proof.Proof.Blocks
public import proofs.«01_k».proof.Proof.Finite
public import proofs.«01_k».proof.Proof.Frames
public import proofs.«01_k».proof.Proof.Join
public import proofs.«01_k».proof.Proof.RefEntry
public import proofs.«01_k».proof.Proof.Result

@[expose] public section

noncomputable section

namespace Cert.Mha

open Idealize.ShloMosaic
open Idealize.ShloMosaic.TcCoe
open Idealize.SL.Sem

/-- What holds at every row and column holds at every index. -/
theorem forall_ix2 {n0 n1 : ℕ} {P : (⟨2, ![n0, n1]⟩ : Shape).Idx → Prop} (h : ∀ (k : Fin n0) (n : Fin n1), P (ix2 k n)) : ∀ i, P i :=
  fun i => (congrArg P (eq_ix2 i)).mpr (h _ _)
/-- What holds at every batch entry, row and column holds at every index. -/
theorem forall_ix3 {n0 n1 n2 : ℕ} {P : (⟨3, ![n0, n1, n2]⟩ : Shape).Idx → Prop}
    (h : ∀ (b : Fin n0) (k : Fin n1) (n : Fin n2), P (ix3 b k n)) : ∀ i, P i :=
  fun i => (congrArg P (eq_ix3 i)).mpr (h _ _ _)

/-- A whole whose blocks of columns are real is real. -/
theorem real_cols {A : (⟨2, ![1024, 4096]⟩ : Shape).Idx → EReal} {f : Fin 4 → (⟨2, ![1024, 1024]⟩ : Shape).Idx → EReal}
    (hf : ∀ c, f c = blkW A c) (h : ∀ c i, IsReal (f c i)) : ∀ i, IsReal (A i) := forall_ix2 fun k n => by
  have h1 := n.isLt
  have e := h ⟨n.val / 1024, by omega⟩ (ix2 k ⟨n.val % 1024, by omega⟩)
  rw [hf, blkW_at] at e
  refine Eq.mp (congrArg (fun n => IsReal (A (ix2 k n))) (Fin.ext ?_)) e
  show n.val / 1024 * 1024 + n.val % 1024 = n.val
  omega

/-- A whole whose batch entries are real is real. -/
theorem real_rows {X : (⟨3, ![4, 512, 1024]⟩ : Shape).Idx → EReal} {f : Fin 4 → (⟨3, ![1, 512, 1024]⟩ : Shape).Idx → EReal}
    (hf : ∀ c, f c = blkX X c) (h : ∀ c i, IsReal (f c i)) : ∀ i, IsReal (X i) := forall_ix3 fun b i k => by
  have e := h b (ix3 0 i k)
  rw [hf, blkX_at] at e
  exact e

section
variable (X : (⟨3, ![4, 512, 1024]⟩ : Shape).Idx → EReal) (A B C : (⟨2, ![1024, 4096]⟩ : Shape).Idx → EReal)
  (D : (⟨2, ![4096, 1024]⟩ : Shape).Idx → EReal)

/-- From the blocks of five whole arrays, the devices' results are the blocks of the reference's. -/
theorem outV_block (I : Dev Cert.KernelIdeal.nD → Ins Ideal)
    (hx : ∀ c, (I c).x = blkX X c) (hq : ∀ c, (I c).wq = blkW A c) (hk : ∀ c, (I c).wk = blkW B c)
    (hv : ∀ c, (I c).wv = blkW C c) (ho : ∀ c, (I c).wo = blkO D c)
    (hX : ∀ i, IsReal (X i)) (hA : ∀ i, IsReal (A i)) (hB : ∀ i, IsReal (B i)) (c : Dev Cert.KernelIdeal.nD) :
    outV I c = blkX (Ref.result X A B C D) c := by
  refine funext (forall_ix3 fun b i l => ?_)
  rw [Subsingleton.elim b 0, outV_at, blkX_at, Ref.result_at X A B C D hX hA hB, ← parts_sum]
  refine Finset.sum_congr rfl fun s _ => ?_
  rw [partOf, hx, hq, hk, hv, ho]

end

attribute [local instance] pre_facts in
/-- The value claim. -/
theorem value : Cert.algebraic_KernelIdeal_ReferenceIdeal_pre_finite_scores_KernelIdeal := by
  intro m g m' g' hp hb
  have hr := fun c => reals_of_pre (hp c)
  refine ⟨_, (θ_run Cert.KernelIdeal.defs _ _).mono (fun r h c => ⟨?_, (framed_of m g r h).1 c⟩) (run_main (F := Ideal) m g),
    (θ_run Cert.ReferenceIdeal.defs _ _).mono (fun r h => h 0) (Cert.ReferenceIdeal.Value.run (F := Ideal) m' g')⟩
  refine (h.1 c (5 : Fin 6)).trans ((final_result m g c).trans ?_)
  exact outV_block _ _ _ _ _ (ins m) (fun c => (ins_x m c).trans (hb c).1) (fun c => (ins_wq m c).trans (hb c).2.1)
    (fun c => (ins_wk m c).trans (hb c).2.2.1) (fun c => (ins_wv m c).trans (hb c).2.2.2.1) (fun c => (ins_wo m c).trans (hb c).2.2.2.2)
    (real_rows (fun c => (hb c).1) fun c => (hr c).1) (real_cols (fun c => (hb c).2.1) fun c => (hr c).2.1)
    (real_cols (fun c => (hb c).2.2.1) fun c => (hr c).2.2) c

attribute [local instance] pre_facts in
/-- The kernel's frame holds under the precondition too. -/
theorem frame_ideal_pre : Cert.quiescent_KernelIdeal_pre_finite_scores_KernelIdeal := fun m ρ _ => frame_ideal m ρ trivial

attribute [local instance] pre_facts_ref in
/-- So does the reference's. -/
theorem frame_reference_pre : Cert.quiescent_ReferenceIdeal_pre_finite_scores_ReferenceIdeal := fun m ρ _ => frame_reference m ρ trivial

end Cert.Mha

end
-- ==== Proof.lean ====
/- The proof of the claim: the two kernel frames and the reference's (Proof/Frames.lean), that the reading over the
   reals replaces nothing, and the value claim (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mha.pre_facts, Cert.Mha.pre_facts_ref,
  Cert.Mha.frame_kernel, Cert.Mha.frame_ideal, Cert.Mha.frame_ideal_pre, Cert.Mha.frame_reference, Cert.Mha.frame_reference_pre,
  trivial, Cert.Mha.value⟩

end Cert.Proof

end
